-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x768 : Shape := ⟨2, ![4096, 768]⟩
abbrev S4096x640 : Shape := ⟨2, ![4096, 640]⟩
abbrev S7x512x768 : Shape := ⟨3, ![7, 512, 768]⟩
abbrev S7x512x640 : Shape := ⟨3, ![7, 512, 640]⟩
abbrev S3x7 : Shape := ⟨2, ![3, 7]⟩
abbrev S_ : Shape := ⟨0, ![]⟩
abbrev S512x512 : Shape := ⟨2, ![512, 512]⟩
abbrev S512x768 : Shape := ⟨2, ![512, 768]⟩
abbrev S512x640 : Shape := ⟨2, ![512, 640]⟩
abbrev S1x1 : Shape := ⟨2, ![1, 1]⟩
abbrev S1x512x768 : Shape := ⟨3, ![1, 512, 768]⟩
abbrev S1x512x640 : Shape := ⟨3, ![1, 512, 640]⟩

abbrev nBuf : Space → Nat
  | .hbm => 3
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S512x2048, .f32⟩
  | .local _ .vmem, ⟨0, _⟩ => ⟨S4096x512, .bf16⟩
  | .local _ .vmem, ⟨1, _⟩ => ⟨S512x2048, .bf16⟩
  | .local _ .vmem, ⟨2, _⟩ => ⟨S512x2048, .f32⟩
  | .local _ .vmem, ⟨3, _⟩ => ⟨S4096x768, .bf16⟩
  | .local _ .vmem, ⟨4, _⟩ => ⟨S4096x640, .bf16⟩
  | .local _ .vmem, ⟨5, _⟩ => ⟨S4096x640, .bf16⟩
  | .local _ .vmem, ⟨6, _⟩ => ⟨S7x512x768, .bf16⟩
  | .local _ .vmem, ⟨7, _⟩ => ⟨S7x512x640, .bf16⟩
  | .local _ .vmem, ⟨8, _⟩ => ⟨S7x512x640, .bf16⟩
  | .local _ .vmem, ⟨9, _⟩ => ⟨S512x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v15 : BitVec 32 := Scalar.xori v2 c4_i32
  let c1_i32_10 : BitVec 32 := 1#32
  let v16 : BitVec 32 := Scalar.muli v15 c1_i32_10
  let v17 : BitVec 32 := Scalar.addi c0_i32_11 v16
  v17.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c2_i32
  let c512_i32 : BitVec 32 := 512#32
  let v19 : BitVec 32 := Scalar.muli v18 c512_i32
  let v20 : Index := Scalar.indexCast v19
  let c0_13 : Index := 0#32
  ![v20.toNat, 0]
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c2_i32
  let c512_i32_16 : BitVec 32 := 512#32
  let v27 : BitVec 32 := Scalar.muli v18 c512_i32_16
  let v28 : Index := Scalar.indexCast v27
  let c0_17 : Index := 0#32
  ![v28.toNat, 0]
def k0_off3 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.xori v2 c2_i32
  let c512_i32_18 : BitVec 32 := 512#32
  let v33 : BitVec 32 := Scalar.muli v18 c512_i32_18
  let v34 : Index := Scalar.indexCast v33
  let c0_19 : Index := 0#32
  ![v34.toNat, 0]
def k0_off4 (d0 : Dev nD) (c2_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.xori v2 c2_i32_22
  let c512_i32_23 : BitVec 32 := 512#32
  let v45 : BitVec 32 := Scalar.muli v44 c512_i32_23
  let c0_i32_34 : BitVec 32 := 0#32
  ![v45.toNat, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v46 : BitVec 32 := Scalar.xori v2 c1_i32_24
  let c1_i32_30 : BitVec 32 := 1#32
  let v47 : BitVec 32 := Scalar.muli v46 c1_i32_30
  let v48 : BitVec 32 := Scalar.addi c0_i32_31 v47
  v48.toNat
def k0_off5 (d0 : Dev nD) (c7_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.xori v2 c7_i32_46
  let c512_i32_47 : BitVec 32 := 512#32
  let v83 : BitVec 32 := Scalar.muli v82 c512_i32_47
  let c0_i32_58 : BitVec 32 := 0#32
  ![v83.toNat, 0]
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v84 : BitVec 32 := Scalar.xori v2 c3_i32_48
  let c1_i32_54 : BitVec 32 := 1#32
  let v85 : BitVec 32 := Scalar.muli v84 c1_i32_54
  let v86 : BitVec 32 := Scalar.addi c0_i32_55 v85
  v86.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v122 : BitVec 32 := Scalar.xori v2 c4_i32_72
  let c1_i32_78 : BitVec 32 := 1#32
  let v123 : BitVec 32 := Scalar.muli v122 c1_i32_78
  let v124 : BitVec 32 := Scalar.addi c0_i32_79 v123
  v124.toNat
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v160 : BitVec 32 := Scalar.xori v2 c1_i32_96
  let c1_i32_102 : BitVec 32 := 1#32
  let v161 : BitVec 32 := Scalar.muli v160 c1_i32_102
  let v162 : BitVec 32 := Scalar.addi c0_i32_103 v161
  v162.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_109 : BitVec 32 := 1#32
  let v172 : BitVec 32 := Scalar.xori v2 c1_i32_109
  let c1_i32_115 : BitVec 32 := 1#32
  let v173 : BitVec 32 := Scalar.muli v172 c1_i32_115
  let v174 : BitVec 32 := Scalar.addi c0_i32_116 v173
  v174.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v184 : BitVec 32 := Scalar.xori v2 c3_i32_122
  let c1_i32_128 : BitVec 32 := 1#32
  let v185 : BitVec 32 := Scalar.muli v184 c1_i32_128
  let v186 : BitVec 32 := Scalar.addi c0_i32_129 v185
  v186.toNat
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v196 : BitVec 32 := Scalar.xori v2 c3_i32_135
  let c1_i32_141 : BitVec 32 := 1#32
  let v197 : BitVec 32 := Scalar.muli v196 c1_i32_141
  let v198 : BitVec 32 := Scalar.addi c0_i32_142 v197
  v198.toNat
def k0_dev11 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v208 : BitVec 32 := Scalar.xori v2 c4_i32_148
  let c1_i32_154 : BitVec 32 := 1#32
  let v209 : BitVec 32 := Scalar.muli v208 c1_i32_154
  let v210 : BitVec 32 := Scalar.addi c0_i32_155 v209
  v210.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v220 : BitVec 32 := Scalar.xori v2 c4_i32_161
  let c1_i32_167 : BitVec 32 := 1#32
  let v221 : BitVec 32 := Scalar.muli v220 c1_i32_167
  let v222 : BitVec 32 := Scalar.addi c0_i32_168 v221
  v222.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v258 : BitVec 32 := Scalar.xori v2 c1_i32_186
  let c1_i32_192 : BitVec 32 := 1#32
  let v259 : BitVec 32 := Scalar.muli v258 c1_i32_192
  let v260 : BitVec 32 := Scalar.addi c0_i32_193 v259
  v260.toNat
def k0_dev14 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v296 : BitVec 32 := Scalar.xori v2 c3_i32_211
  let c1_i32_217 : BitVec 32 := 1#32
  let v297 : BitVec 32 := Scalar.muli v296 c1_i32_217
  let v298 : BitVec 32 := Scalar.addi c0_i32_218 v297
  v298.toNat
def k0_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v334 : BitVec 32 := Scalar.xori v2 c4_i32_236
  let c1_i32_242 : BitVec 32 := 1#32
  let v335 : BitVec 32 := Scalar.muli v334 c1_i32_242
  let v336 : BitVec 32 := Scalar.addi c0_i32_243 v335
  v336.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_328 : BitVec 32 := 3#32
  let v456 : BitVec 32 := Scalar.xori v2 c3_i32_328
  let c1_i32_334 : BitVec 32 := 1#32
  let v457 : BitVec 32 := Scalar.muli v456 c1_i32_334
  let v458 : BitVec 32 := Scalar.addi c0_i32_335 v457
  v458.toNat
def k0_dev17 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_341 : BitVec 32 := 3#32
  let v468 : BitVec 32 := Scalar.xori v2 c3_i32_341
  let c1_i32_347 : BitVec 32 := 1#32
  let v469 : BitVec 32 := Scalar.muli v468 c1_i32_347
  let v470 : BitVec 32 := Scalar.addi c0_i32_348 v469
  v470.toNat
def k0_dev18 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_371 : BitVec 32 := 4#32
  let v501 : BitVec 32 := Scalar.xori v2 c4_i32_371
  let c1_i32_377 : BitVec 32 := 1#32
  let v502 : BitVec 32 := Scalar.muli v501 c1_i32_377
  let v503 : BitVec 32 := Scalar.addi c0_i32_378 v502
  v503.toNat
def k0_dev19 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_384 : BitVec 32 := 4#32
  let v513 : BitVec 32 := Scalar.xori v2 c4_i32_384
  let c1_i32_390 : BitVec 32 := 1#32
  let v514 : BitVec 32 := Scalar.muli v513 c1_i32_390
  let v515 : BitVec 32 := Scalar.addi c0_i32_391 v514
  v515.toNat
def k0_dev20 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_414 : BitVec 32 := 1#32
  let v546 : BitVec 32 := Scalar.xori v2 c1_i32_414
  let c1_i32_420 : BitVec 32 := 1#32
  let v547 : BitVec 32 := Scalar.muli v546 c1_i32_420
  let v548 : BitVec 32 := Scalar.addi c0_i32_421 v547
  v548.toNat
def k0_dev21 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_427 : BitVec 32 := 1#32
  let v558 : BitVec 32 := Scalar.xori v2 c1_i32_427
  let c1_i32_433 : BitVec 32 := 1#32
  let v559 : BitVec 32 := Scalar.muli v558 c1_i32_433
  let v560 : BitVec 32 := Scalar.addi c0_i32_434 v559
  v560.toNat
def k0_dev22 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_556 : BitVec 32 := 4#32
  let v717 : BitVec 32 := Scalar.xori v2 c4_i32_556
  let c1_i32_562 : BitVec 32 := 1#32
  let v718 : BitVec 32 := Scalar.muli v717 c1_i32_562
  let v719 : BitVec 32 := Scalar.addi c0_i32_563 v718
  v719.toNat
def k0_dev23 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v750 : BitVec 32 := Scalar.xori v2 c1_i32_586
  let c1_i32_592 : BitVec 32 := 1#32
  let v751 : BitVec 32 := Scalar.muli v750 c1_i32_592
  let v752 : BitVec 32 := Scalar.addi c0_i32_593 v751
  v752.toNat
def k0_dev24 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_616 : BitVec 32 := 3#32
  let v783 : BitVec 32 := Scalar.xori v2 c3_i32_616
  let c1_i32_622 : BitVec 32 := 1#32
  let v784 : BitVec 32 := Scalar.muli v783 c1_i32_622
  let v785 : BitVec 32 := Scalar.addi c0_i32_623 v784
  v785.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_687 : BitVec 32 := 512#32
  let v863 : BitVec 32 := Scalar.muli v2 c512_i32_687
  let v864 : Index := Scalar.indexCast v863
  let c0_688 : Index := 0#32
  ![v864.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_707 : BitVec 32 := 512#32
  let v892 : BitVec 32 := Scalar.muli v2 c512_i32_707
  let v893 : Index := Scalar.indexCast v892
  let c0_708 : Index := 0#32
  ![v893.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Program.lean ====
/-
# The kernel as a list of steps

The printed body is a straight line of some seventy transfers, waits, products and sums over three column groups. This
module states it as a LIST of steps of five kinds, each generic in the column group `g` and the transfer `k`, and proves
the printed body equal to the run of that list (`body_eq_run`).

A device's eight row chunks are named by a mask: chunk `c xor μ` on device `c`. Column group `g` works in hypercube
dimensions `pmask g` in its own order. Transfer `(g, k)` goes to device `c xor pm g k`; its source is the chunk of mask
`sm g k`, and the device that receives it adds it into its chunk of mask `rm g k = sm g k xor pm g k`.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.RS

open Cert.KernelIdeal Cert.KernelIdeal.Gen
open Idealize.ShloMosaic Idealize.ShloMosaic.TcCoe
open Idealize.SL Idealize.SL.Sem

variable {F : FTy → Type} [FloatOps F]

/-! ## The tables -/

/-- The width of a column group. -/
def wd : Fin 3 → ℕ | 0 => 768 | 1 => 640 | 2 => 640
/-- Its first column. -/
def colOff : Fin 3 → ℕ | 0 => 0 | 1 => 768 | 2 => 1408

/-- The stage of transfer `k`: the first four are of stage 1, the next two of stage 2, the last of stage 3. -/
def stg : Fin 7 → Fin 4 | 0 => 1 | 1 => 1 | 2 => 1 | 3 => 1 | 4 => 2 | 5 => 2 | 6 => 3

/-- Group `g`'s partner mask at a stage (the value at stage 0 is not used). -/
def pmask : Fin 3 → Fin 4 → Fin 8
  | 0 => fun | 0 => 0 | 1 => 1 | 2 => 3 | 3 => 4
  | 1 => fun | 0 => 0 | 1 => 3 | 2 => 4 | 3 => 1
  | 2 => fun | 0 => 0 | 1 => 4 | 2 => 1 | 3 => 3

/-- The partner mask of a transfer. -/
def pm (g : Fin 3) (k : Fin 7) : Fin 8 := pmask g (stg k)

/-- The mask of a transfer's source chunk, less one. -/
def sm' : Fin 3 → Fin 7 → Fin 7
  | 0 => fun | 0 => 1 | 1 => 5 | 2 => 4 | 3 => 0 | 4 => 6 | 5 => 2 | 6 => 3
  | 1 => fun | 0 => 6 | 1 => 5 | 2 => 1 | 3 => 2 | 4 => 4 | 5 => 3 | 6 => 0
  | 2 => fun | 0 => 4 | 1 => 5 | 2 => 6 | 3 => 3 | 4 => 1 | 5 => 0 | 6 => 2

/-- The mask of a transfer's source chunk. -/
def sm (g : Fin 3) (k : Fin 7) : Fin 8 := (sm' g k).succ

/-- The mask of the chunk a received block is added into. -/
def rm : Fin 3 → Fin 7 → Fin 8
  | 0 => fun | 0 => 3 | 1 => 7 | 2 => 4 | 3 => 0 | 4 => 4 | 5 => 0 | 6 => 0
  | 1 => fun | 0 => 4 | 1 => 5 | 2 => 1 | 3 => 0 | 4 => 1 | 5 => 0 | 6 => 0
  | 2 => fun | 0 => 1 | 1 => 2 | 2 => 3 | 3 => 0 | 4 => 3 | 5 => 0 | 6 => 0

/-- A mask as the word the kernel computes with. -/
abbrev mw (μ : Fin 8) : BitVec 32 := BitVec.ofNat 32 μ.val

/-! ## Shapes, buffers and semaphores by group -/

abbrev SA (g : Fin 3) : Shape := ⟨2, ![4096, wd g]⟩
abbrev SR (g : Fin 3) : Shape := ⟨3, ![7, 512, wd g]⟩
abbrev SB (g : Fin 3) : Shape := ⟨2, ![512, wd g]⟩
abbrev SB1 (g : Fin 3) : Shape := ⟨3, ![1, 512, wd g]⟩

/-- The accumulator of a group: the device's eight row chunks of its columns. -/
def accM : (g : Fin 3) → Memref sig .tc .vmem (SA g) .bf16
  | 0 => Memref.whole cc0_scratch0 | 1 => Memref.whole cc0_scratch1 | 2 => Memref.whole cc0_scratch2
/-- The seven landing slots of a group. -/
def rcvM : (g : Fin 3) → Memref sig .tc .vmem (SR g) .bf16
  | 0 => Memref.whole cc0_scratch3 | 1 => Memref.whole cc0_scratch4 | 2 => Memref.whole cc0_scratch5
abbrev xM : Memref sig .tc .vmem S4096x512 .bf16 := Memref.whole cc0_stg0_0
abbrev wM : Memref sig .tc .vmem S512x2048 .bf16 := Memref.whole cc0_stg1_0
abbrev oM : Memref sig .tc .vmem S512x2048 .f32 := Memref.whole cc0_stg2_0
abbrev bM : Memref sig .tc .vmem S512x2048 .bf16 := Memref.whole cc0_scratch6

theorem accM_whole : ∀ g, (accM g).IsWhole
  | 0 => Memref.isWhole_whole _ | 1 => Memref.isWhole_whole _ | 2 => Memref.isWhole_whole _
theorem rcvM_whole : ∀ g, (rcvM g).IsWhole
  | 0 => Memref.isWhole_whole _ | 1 => Memref.isWhole_whole _ | 2 => Memref.isWhole_whole _

theorem inb_sem (g : Fin 3) (k : Fin 7) : ∀ a, (![g.val, k.val] : Fin 2 → ℕ) a + S1x1.size a ≤ S3x7.size a := by
  intro a; fin_cases a
  · show g.val + 1 ≤ 3; omega
  · show k.val + 1 ≤ 7; omega

/-- The send and receive semaphores of transfer `(g, k)`. -/
abbrev sendS (g : Fin 3) (k : Fin 7) : DmaSem sig :=
  ((cc0_scratch7.slice (Rect.unit (s := S3x7) ![g.val, k.val] S1x1.size (inb_sem g k))).squeeze S_ squeezes_S1x1_S_).sem
abbrev recvS (g : Fin 3) (k : Fin 7) : DmaSem sig :=
  ((cc0_scratch8.slice (Rect.unit (s := S3x7) ![g.val, k.val] S1x1.size (inb_sem g k))).squeeze S_ squeezes_S1x1_S_).sem
/-- The runtime's barrier semaphore. -/
abbrev barS : Sem sig := (SemArray.scalar (sig.barrier 0 rfl) : Sems sig S_).sem

/-! ## Rectangles -/

/-- Row offsets: of a chunk for loads and stores of `x` and of the accumulators, of a transfer's source, of the device's
    own chunk. -/
abbrev offX (d : Dev nD) (μ : Fin 8) : Fin 2 → ℕ := k0_off1 d (mw μ)
abbrev offA (d : Dev nD) (μ : Fin 8) : Fin 2 → ℕ := k0_off2 d (mw μ)
abbrev offS (d : Dev nD) (μ : Fin 7) : Fin 2 → ℕ := k0_off4 d (BitVec.ofNat 32 (1 + μ.val))
abbrev offF (d : Dev nD) : Fin 2 → ℕ := k0_off6 d

theorem inbX (d : Dev nD) (μ : Fin 8) : ∀ a, offX d μ a + S512x512.size a ≤ S4096x512.size a := k0_off1_inb d μ
theorem inbA : ∀ (g : Fin 3) (d : Dev nD) (μ : Fin 8) (a : Fin 2), offA d μ a + (SB g).size a ≤ (SA g).size a
  | 0, d, μ => k0_off2_inb d μ | 1, d, μ => k0_off3_inb d μ | 2, d, μ => k0_off3_inb d μ
theorem inbS : ∀ (g : Fin 3) (d : Dev nD) (μ : Fin 7) (a : Fin 2), offS d μ a + (SB g).size a ≤ (SA g).size a
  | 0, d, μ => k0_off4_inb d μ | 1, d, μ => k0_off5_inb d μ | 2, d, μ => k0_off5_inb d μ
theorem inbF : ∀ (g : Fin 3) (d : Dev nD) (a : Fin 2), offF d a + (SB g).size a ≤ (SA g).size a
  | 0, d => k0_off6_inb d | 1, d => k0_off7_inb d | 2, d => k0_off7_inb d
theorem inbR (g : Fin 3) (k : Fin 7) (a : Fin 3) : (![k.val, 0, 0] : Fin 3 → ℕ) a + (SB1 g).size a ≤ (SR g).size a := by
  fin_cases a
  · show k.val + 1 ≤ 7; omega
  · show 0 + 512 ≤ 512; omega
  · show 0 + wd g ≤ wd g; omega
theorem inbO : ∀ (g : Fin 3) (a : Fin 2), (![0, colOff g] : Fin 2 → ℕ) a + (SB g).size a ≤ S512x2048.size a := by
  intro g a; fin_cases g <;> fin_cases a <;> decide

abbrev rX (d : Dev nD) (μ : Fin 8) : Rect S4096x512 := Rect.unit (s := S4096x512) (offX d μ) S512x512.size (inbX d μ)
abbrev rA (g : Fin 3) (d : Dev nD) (μ : Fin 8) : Rect (SA g) := Rect.unit (s := SA g) (offA d μ) (SB g).size (inbA g d μ)
abbrev rS (g : Fin 3) (d : Dev nD) (μ : Fin 7) : Rect (SA g) := Rect.unit (s := SA g) (offS d μ) (SB g).size (inbS g d μ)
abbrev rF (g : Fin 3) (d : Dev nD) : Rect (SA g) := Rect.unit (s := SA g) (offF d) (SB g).size (inbF g d)
abbrev rR (g : Fin 3) (k : Fin 7) : Rect (SR g) := Rect.unit (s := SR g) ![k.val, 0, 0] (SB1 g).size (inbR g k)
abbrev rO (g : Fin 3) : Rect S512x2048 := Rect.unit (s := S512x2048) ![0, colOff g] (SB g).size (inbO g)
abbrev rW : Rect S512x2048 := Rect.unit (s := S512x2048) ![0, 0] S512x2048.size inb_S512x2048_S512x2048_0_0

theorem squeezes1 : ∀ g : Fin 3, (SB1 g).Squeezes (SB g)
  | 0 => squeezes_S1x512x768_S512x768 | 1 => squeezes_S1x512x640_S512x640 | 2 => squeezes_S1x512x640_S512x640
theorem hB : ∀ g : Fin 3, 0 < (SB g).numel
  | 0 => h_S512x768 | 1 => h_S512x640 | 2 => h_S512x640

/-- A transfer's source, and its landing slot. -/
abbrev srcB (g : Fin 3) (d : Dev nD) (μ : Fin 7) : Memref sig .tc .vmem (SB g) .bf16 := (accM g).slice (rS g d μ) (fun _ => rfl)
abbrev slotB (g : Fin 3) (k : Fin 7) : Memref sig .tc .vmem (SB g) .bf16 :=
  ((rcvM g).slice (rR g k) (fun _ => rfl)).squeeze (SB g) (squeezes1 g)

theorem srcB_word : ∀ (g : Fin 3) (d : Dev nD) (μ : Fin 7), (srcB g d μ).view.WordExact
  | 0, d, μ => (accM_whole 0).wordExact_slice rfl _ (k0_off4_wordsbf16 d μ)
  | 1, d, μ => (accM_whole 1).wordExact_slice rfl _ (k0_off5_wordsbf16 d μ)
  | 2, d, μ => (accM_whole 2).wordExact_slice rfl _ (k0_off5_wordsbf16 d μ)

theorem slot_words : ∀ (g : Fin 3) (k : Fin 7), (rR g k).WholeWords (EltTy.packing .bf16)
  | 0 => by decide | 1 => by decide | 2 => by decide
theorem slotB_word (g : Fin 3) (k : Fin 7) : (slotB g k).view.WordExact :=
  ((rcvM_whole g).wordExact_slice (by fin_cases g <;> rfl) _ (slot_words g k)).reshape _ _
theorem rA_packed : ∀ (g : Fin 3) (d : Dev nD) (μ : Fin 8), (rA g d μ).PackedRows (EltTy.packing .bf16)
  | 0, d, μ => k0_off2_packedbf16 d μ | 1, d, μ => k0_off3_packedbf16 d μ | 2, d, μ => k0_off3_packedbf16 d μ
theorem rA_stores (g : Fin 3) (d : Dev nD) (μ : Fin 8) : ((accM g).access (rA g d μ)).Stores Finset.univ :=
  View.stores_vmem (hB g) ((accM_whole g).storeExact_slice (by fin_cases g <;> rfl) _ (rA_packed g d μ)) (fun _ => rfl)
theorem rO_stores (g : Fin 3) : (oM.access (rO g)).Stores Finset.univ := View.stores_vmem_bits_univ (hB g) rfl
theorem hB1 : ∀ g : Fin 3, 0 < (SB1 g).numel
  | 0 => h_S1x512x768 | 1 => h_S1x512x640 | 2 => h_S1x512x640
theorem slot_isc : ∀ (g : Fin 3) (k : Fin 7), (slotB g k).view.ref.isScScratch = false
  | 0, _ => rfl | 1, _ => rfl | 2, _ => rfl

/-! ## Payloads -/

theorem castB : ∀ g : Fin 3, (SB g).ShapeCasts (SB g)
  | 0 => shapeCasts_S512x768_S512x768 | 1 => shapeCasts_S512x640_S512x640 | 2 => shapeCasts_S512x640_S512x640
theorem cast1B : ∀ g : Fin 3, (SB1 g).ShapeCasts (SB g)
  | 0 => shapeCasts_S1x512x768_S512x768 | 1 => shapeCasts_S1x512x640_S512x640 | 2 => shapeCasts_S1x512x640_S512x640
theorem slicesG : ∀ g : Fin 3, S512x2048.Slices ![0, colOff g] (SB g)
  | 0 => slices_S512x2048_o0_0_S512x768 | 1 => slices_S512x2048_o0_768_S512x640 | 2 => slices_S512x2048_o0_1408_S512x640

/-- The rounded product of a chunk of `x` and the device's rows of the weights. -/
def prodV (x : FVec F S512x512 .bf16) (w : FVec F S512x2048 .bf16) : FVec F S512x2048 .bf16 :=
  truncf .bf16 (matmul dot_S512x512_S512x2048_S512x2048_1_0_0_1_n_n none (shapeCast S512x512 x shapeCasts_S512x512_S512x512) w
    (constant S512x2048 .f32 0x00000000#32)) bitsLt_bf16_f32
/-- Its columns of a group. -/
def colsV (g : Fin 3) (p : FVec F S512x2048 .bf16) : FVec F (SB g) .bf16 :=
  shapeCast (SB g) (extractStridedSlice (SB g) ![0, colOff g] p (slicesG g)) (castB g)
/-- The sum, over `f32`, of two blocks. -/
def sumV (g : Fin 3) (a b : FVec F (SB g) .bf16) : FVec F (SB g) .f32 :=
  addf (extf .f32 a bitsLt_bf16_f32) (extf .f32 b bitsLt_bf16_f32)
/-- The sum, rounded. -/
def addV (g : Fin 3) (a b : FVec F (SB g) .bf16) : FVec F (SB g) .bf16 :=
  shapeCast (SB g) (truncf .bf16 (sumV g a b) bitsLt_bf16_f32) (castB g)
/-- The tanh form of gelu. -/
def geluV (g : Fin 3) (y : FVec F (SB g) .f32) : FVec F (SB g) .f32 :=
  mulf (mulf (broadcast (SB g) (Scalar.ofBits .f32 0x3F000000#32)) y)
    (addf (broadcast (SB g) (Scalar.ofBits .f32 0x3F800000#32))
      (tanh (mulf (broadcast (SB g) (Scalar.ofBits .f32 0x3F4C422A#32))
        (addf y (mulf (mulf (mulf (broadcast (SB g) (Scalar.ofBits .f32 0x3D372713#32)) y) y) y)))))
/-- A slot's contents as a block. -/
abbrev flatV (g : Fin 3) (v : FVec F (SB1 g) .bf16) : FVec F (SB g) .bf16 := shapeCast (SB g) v (cast1B g)

/-! ## The steps -/

/-- The partner word of a mask, and its bound. -/
abbrev devW (d : Dev nD) (μ : BitVec 32) : ℕ :=
  (Scalar.addi 0#32 (Scalar.muli (Scalar.xori (Scalar.remsi (Scalar.divsi (Dev.word d) 1#32) 8#32) μ) 1#32)).toNat
theorem devW_lt : ∀ (d : Dev nD) (μ : Fin 8), devW d (mw μ) < nD := by decide +kernel

abbrev P1 (F : FTy → Type) := Prog (TpuEff nD τ sig (Elt F) Λ₀ .tc) PUnit

/-- A load of a rectangle. -/
abbrev ld {s : Shape} {e : EltTy} (m : Memref sig .tc .vmem s e) (r : Rect s) (h : 0 < r.shape.numel)
    (k : (r.shape.Idx → Elt F e) → P1 F) : P1 F :=
  .op (.load m r.toLoadRect (View.loadsAt_vmem h)) k

/-- The weights copied to the scratch the products read. -/
def startC (k : P1 F) : P1 F :=
  ld wM rW h_S512x2048 fun v3 =>
  ld bM rW h_S512x2048 fun _ =>
  .op (.store bM rW (k0_pay1 v3) Finset.univ (View.stores_vmem h_S512x2048
    ((Memref.isWhole_whole cc0_scratch6).storeExact_slice rfl _ packedbf16_S512x2048_S512x2048_0_0) (fun _ => rfl)) (.inl rfl)) fun _ => k

/-- A unit signalled to the barrier of the partner of a mask. -/
def sigC (d : Dev nD) (μ : Fin 8) (k : P1 F) : P1 F :=
  Prog.bind (semSignalWord (⟨devW d (mw μ), devW_lt d μ⟩ : Dev nD) barS 1#32) fun _ => k
/-- The wait for the three partners' units. -/
def barC (k : P1 F) : P1 F := Prog.bind (semWaitWord barS 3#32) fun _ => k

/-- A block stored into the accumulator of a group (the load before it is not used). -/
def putC (d : Dev nD) (g : Fin 3) (μ : Fin 8) (v : FVec F (SB g) .bf16) (k : P1 F) : P1 F :=
  ld (accM g) (rA g d μ) (hB g) fun _ =>
  .op (.store (accM g) (rA g d μ) v Finset.univ (rA_stores g d μ) (.inl rfl)) fun _ => k

/-- The product of the chunk of a mask, stored into the three accumulators. -/
def chunkC (d : Dev nD) (μ : Fin 8) (k : P1 F) : P1 F :=
  ld xM (rX d μ) h_S512x512 fun (x : FVec F S512x512 .bf16) =>
  ld bM rW h_S512x2048 fun (w : FVec F S512x2048 .bf16) =>
  putC d 0 μ (colsV 0 (prodV x w)) (putC d 1 μ (colsV 1 (prodV x w)) (putC d 2 μ (colsV 2 (prodV x w)) k))

/-- The start of transfer `(g, i)`. -/
def sendC (d : Dev nD) (g : Fin 3) (i : Fin 7) (k : P1 F) : P1 F :=
  .op (.enqueueDma (srcB g d (sm' g i)) (.remote (Dev.tc (⟨devW d (mw (pm g i)), devW_lt d _⟩ : Dev nD)) (slotB g i) (.dma (sendS g i)) (slot_isc g i))
    (.dma (recvS g i)) (srcB_word g d (sm' g i)) (slotB_word g i) ⟨⟨rfl, Or.inl rfl⟩, trivial⟩) fun _ => k

/-- The wait for the landing of transfer `(g, i)`. -/
def waitC (d : Dev nD) (g : Fin 3) (i : Fin 7) (k : P1 F) : P1 F :=
  .op (.waitDma2 (recvS g i) (srcB g d (sm' g i)) (slotB g i) (srcB_word g d (sm' g i)) (slotB_word g i)) fun _ => k

/-- A landed block added into the accumulator. -/
def recvC (d : Dev nD) (g : Fin 3) (i : Fin 7) (k : P1 F) : P1 F :=
  waitC d g i
    (ld (accM g) (rA g d (rm g i)) (hB g) fun (a : FVec F (SB g) .bf16) =>
     ld (rcvM g) (rR g i) (hB1 g) fun (v : FVec F (SB1 g) .bf16) =>
     putC d g (rm g i) (addV g a (flatV g v)) k)

/-- The last landed block of a group: the sum with the device's own chunk, through gelu, into the result's columns. -/
def finC (d : Dev nD) (g : Fin 3) (k : P1 F) : P1 F :=
  waitC d g 6
    (ld (accM g) (rF g d) (hB g) fun (a : FVec F (SB g) .bf16) =>
     ld (rcvM g) (rR g 6) (hB1 g) fun (v : FVec F (SB1 g) .bf16) =>
     ld oM (rO g) (hB g) fun _ =>
     .op (.store oM (rO g) (geluV g (sumV g a (flatV g v))) Finset.univ (rO_stores g) (.inl rfl)) fun _ => k)

/-- The wait for the source of transfer `(g, i)` to be free. -/
def freeC (d : Dev nD) (g : Fin 3) (i : Fin 7) (k : P1 F) : P1 F :=
  .op (.waitDma2 (sendS g i) (slotB g i) (srcB g d (sm' g i)) (slotB_word g i) (srcB_word g d (sm' g i))) fun _ => k

/-- The steps after the barrier. -/
inductive Step
  | chunk (μ : Fin 8) | send (g : Fin 3) (i : Fin 7) | recv (g : Fin 3) (i : Fin 7) | fin (g : Fin 3) | free (g : Fin 3) (i : Fin 7)
deriving DecidableEq

def stepC (d : Dev nD) : Step → P1 F → P1 F
  | .chunk μ, k => chunkC d μ k | .send g i, k => sendC d g i k | .recv g i, k => recvC d g i k
  | .fin g, k => finC d g k | .free g i, k => freeC d g i k

def runC (d : Dev nD) : List Step → P1 F
  | [] => .ret ⟨⟩
  | s :: l => stepC d s (runC d l)

/-- The kernel's steps in order. -/
def steps : List Step :=
  [.chunk 2, .send 0 0, .chunk 7, .send 1 0, .chunk 5, .send 2 0, .chunk 6, .send 0 1, .send 0 2, .send 1 1, .send 1 2, .send 2 1, .send 2 2,
   .chunk 1, .send 0 3, .chunk 3, .send 1 3, .chunk 4, .send 2 3, .chunk 0,
   .recv 0 0, .recv 1 0, .recv 2 0,
   .recv 0 1, .send 0 4, .send 0 5, .recv 1 1, .send 1 4, .send 1 5, .recv 2 1, .send 2 4, .send 2 5,
   .recv 0 2, .recv 1 2, .recv 2 2, .recv 0 3, .recv 1 3, .recv 2 3,
   .recv 0 4, .send 0 6, .recv 1 4, .send 1 6, .recv 2 4, .send 2 6,
   .recv 0 5, .recv 1 5, .recv 2 5, .fin 0, .fin 1, .fin 2,
   .free 0 0, .free 0 1, .free 0 2, .free 0 3, .free 0 4, .free 0 5, .free 0 6,
   .free 1 0, .free 1 1, .free 1 2, .free 1 3, .free 1 4, .free 1 5, .free 1 6,
   .free 2 0, .free 2 1, .free 2 2, .free 2 3, .free 2 4, .free 2 5, .free 2 6]

/-- The whole body. -/
def bodyC : P1 F :=
  .op .deviceId fun d => startC (sigC d 1 (sigC d 3 (sigC d 4 (barC (runC d steps)))))

set_option maxRecDepth 65536 in
/-- The printed body is the run of the steps: both unfold to one sequence of operations. -/
theorem body_eq_run :
    cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      bM (Memref.isWhole_whole _) cc0_scratch7 cc0_scratch8 = bodyC := by
  chain_rfl

end Cert.RS

end
-- ==== Proof.Blocks.lean ====
/-
# Devices, blocks and their memory

The device arithmetic of the kernel in closed form (`xr`: a device's partner of a mask), the row blocks of the
accumulators, the landing slots and the column blocks of the result as pieces of memory, and how a buffer held whole is
held piece by piece and back.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The partner of a device at a mask; also the row chunk a mask names on it. -/
def xr (c : Dev nD) (μ : Fin 8) : Dev nD := ⟨c.val ^^^ μ.val, Nat.xor_lt_two_pow (n := 3) c.isLt μ.isLt⟩

theorem xr_xr : ∀ (c : Dev nD) (μ : Fin 8), xr (xr c μ) μ = c := by decide +kernel
theorem xr_zero : ∀ c : Dev nD, xr c 0 = c := by decide +kernel
/-- The chunk a transfer's receiver adds into is the chunk its sender took. -/
theorem xr_pm_sm : ∀ (c : Dev nD) (g : Fin 3) (k : Fin 7), xr (xr c (pm g k)) (rm g k) = xr c (sm g k) := by decide +kernel
theorem xr_pm_rm : ∀ (c : Dev nD) (g : Fin 3) (k : Fin 7), xr (xr c (pm g k)) (sm g k) = xr c (rm g k) := by decide +kernel

/-- A mask as a permutation of the devices. -/
def xrE (μ : Fin 8) : Dev nD ≃ Dev nD := ⟨fun c => xr c μ, fun c => xr c μ, fun c => xr_xr c μ, fun c => xr_xr c μ⟩

theorem devW_eq (d : Dev nD) (μ : Fin 8) : (⟨devW d (mw μ), devW_lt d μ⟩ : Dev nD) = xr d μ := by
  revert d μ; decide +kernel

/-! ## Offsets in closed form -/

/-- The first row of a chunk. -/
abbrev offC (ch : Dev nD) : Fin 2 → ℕ := ![512 * ch.val, 0]

theorem offX_eq : ∀ (d : Dev nD) (μ : Fin 8), offX d μ = offC (xr d μ) := by decide +kernel
theorem offA_eq : ∀ (d : Dev nD) (μ : Fin 8), offA d μ = offC (xr d μ) := by decide +kernel
theorem offS_eq : ∀ (d : Dev nD) (μ : Fin 7), offS d μ = offC (xr d μ.succ) := by decide +kernel
theorem offF_eq : ∀ d : Dev nD, offF d = offC d := by decide +kernel

theorem inbC (w : ℕ) (ch : Dev nD) : ∀ a, offC ch a + (![512, w] : Fin 2 → ℕ) a ≤ (![4096, w] : Fin 2 → ℕ) a := by
  intro a
  have hc : ch.val < 8 := ch.isLt
  fin_cases a
  · show 512 * ch.val + 512 ≤ 4096; omega
  · show 0 + w ≤ w; omega

/-- The rows of a chunk of an accumulator, and of `x`. -/
abbrev rC (g : Fin 3) (ch : Dev nD) : Rect (SA g) := Rect.unit (s := SA g) (offC ch) (SB g).size (inbC (wd g) ch)
abbrev rCX (ch : Dev nD) : Rect S4096x512 := Rect.unit (s := S4096x512) (offC ch) S512x512.size (inbC 512 ch)

/-- A chunk of an accumulator. -/
abbrev accB (g : Fin 3) (ch : Dev nD) : Memref sig .tc .vmem (SB g) .bf16 := (accM g).slice (rC g ch) (fun _ => rfl)

/-! ## What a device owns of its memory -/

/-- Device `c` owns chunk `ch` of group `g`'s accumulator, at `X`. -/
def accO (c : Dev nD) (g : Fin 3) (ch : Dev nD) (X : FVec F (SB g) .bf16) : sProp 𝕄 := owns (c : Thread nD τ) (accB g ch) fullShare X
/-- Device `c`'s slot `(g, k)`, at `X`. -/
def slotO (c : Dev nD) (g : Fin 3) (k : Fin 7) (X : FVec F (SB g) .bf16) : sProp 𝕄 := owns (c : Thread nD τ) (slotB g k) fullShare X
/-- The columns of group `g` of device `c`'s result, at `X`. -/
def outO (c : Dev nD) (g : Fin 3) (X : FVec F (SB g) .f32) : sProp 𝕄 := owns (c : Thread nD τ) (oM.slice (rO g) (fun _ => rfl)) fullShare X

instance accO_storable (c : Dev nD) (g : Fin 3) (ch : Dev nD) (X : FVec F (SB g) .bf16) : BI.Storable (upEmb : UEmb _ 𝕄) (accO c g ch X) := by
  unfold accO; infer_instance
instance slotO_storable (c : Dev nD) (g : Fin 3) (k : Fin 7) (X : FVec F (SB g) .bf16) : BI.Storable (upEmb : UEmb _ 𝕄) (slotO c g k X) := by
  unfold slotO; infer_instance

/-! ## Loads and stores of pieces -/

abbrev 𝒱₀ : Variants := Variants.none

/-- The weakest precondition of a program on device `c`'s core. -/
abbrev WP (c : Dev nD) (p : P1 F) (Q : PUnit.{1} → sProp 𝕄) : sProp 𝕄 :=
  wp frame (wpE (defs₀ (F := F)) 𝒱₀ (c : Thread nD τ) none) Set.univ p Q

section Rules

variable (c : Dev nD) {s : Shape} {e : EltTy} (m : Memref sig .tc .vmem s e)

/-- A load of a piece the device owns reads its contents. -/
theorem wp_ld (r : Rect s) (hr : ∀ a, r.stride a = 1) (h : 0 < r.shape.numel) (X : r.shape.Idx → Elt F e) (k : (r.shape.Idx → Elt F e) → P1 F)
    (Q : PUnit.{1} → sProp 𝕄) :
    owns (c : Thread nD τ) (m.slice r hr) fullShare X
      ⊢ iprop((owns (c : Thread nD τ) (m.slice r hr) fullShare X -∗ WP c (k X) Q) -∗ WP c (ld m r h k) Q) := by
  unfold owns ld
  iintro ⟨%f, %hf, H⟩ Hk
  iapply (wp_load_rect 𝒱₀ (c : Thread nD τ) none Set.univ (m := m) (r := r) (Finset.Subset.refl _)) $$ H
  iintro H
  rw [show (m.access r).read (Elt F) f = X from hf]
  iapply Hk
  iexists f
  isplitr; · ipureintro; exact hf
  iexact H

/-- A store of a piece the device owns leaves what was stored. -/
theorem wp_st (r : Rect s) (hr : ∀ a, r.stride a = 1) {hx : (m.access r).Stores Finset.univ} {hm} (X w : r.shape.Idx → Elt F e) (k : P1 F)
    (Q : PUnit.{1} → sProp 𝕄) :
    owns (c : Thread nD τ) (m.slice r hr) fullShare X
      ⊢ iprop((owns (c : Thread nD τ) (m.slice r hr) fullShare w -∗ WP c k Q)
          -∗ WP c (.op (.store m r w Finset.univ hx hm) fun _ => k) Q) := by
  unfold owns
  iintro ⟨%f, %hf, H⟩ Hk
  iapply (wp_store 𝒱₀ (c : Thread nD τ) none Set.univ (m := m) (r := r) (Mk := Finset.univ) (S := (m.access r).set) (f := f) (Finset.Subset.refl _)) $$ H
  iintro H
  iapply Hk
  iexists ((m.access r).write (Elt F) f w Finset.univ)
  isplitr; · ipureintro; exact View.read_write_univ _ _
  iexact H

/-- A load of a part of a memref the device owns reads its contents there. -/
theorem wp_ld_part (r : Rect s) (h : 0 < r.shape.numel) (X : s.Idx → Elt F e) (k : (r.shape.Idx → Elt F e) → P1 F)
    (Q : PUnit.{1} → sProp 𝕄) :
    owns (c : Thread nD τ) m fullShare X
      ⊢ iprop((owns (c : Thread nD τ) m fullShare X -∗ WP c (k fun j => X (r.emb j)) Q) -∗ WP c (ld m r h k) Q) := by
  unfold owns ld
  iintro ⟨%f, %hf, H⟩ Hk
  iapply (wp_load_rect 𝒱₀ (c : Thread nD τ) none Set.univ (m := m) (r := r) (View.set_slice_subset _ _)) $$ H
  iintro H
  rw [show (m.access r).read (Elt F) f = fun j => X (r.emb j) from funext fun j => congrFun hf (r.emb j)]
  iapply Hk
  iexists f
  isplitr; · ipureintro; exact hf
  iexact H

end Rules

section Group

variable (c : Dev nD) (g : Fin 3)

theorem wp_put_at (ch : Dev nD) (off : Fin 2 → ℕ) (h : off = offC ch) (inb : ∀ a, off a + (SB g).size a ≤ (SA g).size a)
    (hs : ((accM g).access (Rect.unit (s := SA g) off (SB g).size inb)).Stores Finset.univ) (hm)
    (X v : FVec F (SB g) .bf16) (k : P1 F) (Q : PUnit.{1} → sProp 𝕄) :
    accO c g ch X ⊢ iprop((accO c g ch v -∗ WP c k Q)
      -∗ WP c (ld (accM g) (Rect.unit (s := SA g) off (SB g).size inb) (hB g) fun _ =>
          .op (.store (accM g) (Rect.unit (s := SA g) off (SB g).size inb) v Finset.univ hs hm) fun _ => k) Q) := by
  subst h
  unfold accO
  iintro H Hk
  iapply (wp_ld c (accM g) (rC g ch) (fun _ => rfl) (hB g) X) $$ H
  iintro H
  iapply (wp_st c (accM g) (rC g ch) (fun _ => rfl) X v) $$ H
  iexact Hk

/-- A block stored into a chunk of the accumulator. -/
theorem wp_put (μ : Fin 8) (X v : FVec F (SB g) .bf16) (k : P1 F) (Q : PUnit.{1} → sProp 𝕄) :
    accO c g (xr c μ) X ⊢ iprop((accO c g (xr c μ) v -∗ WP c k Q) -∗ WP c (putC c g μ v k) Q) :=
  wp_put_at c g (xr c μ) _ (offA_eq c μ) _ _ _ X v k Q

theorem wp_get_at (ch : Dev nD) (off : Fin 2 → ℕ) (h : off = offC ch) (inb : ∀ a, off a + (SB g).size a ≤ (SA g).size a)
    (X : FVec F (SB g) .bf16) (k : FVec F (SB g) .bf16 → P1 F) (Q : PUnit.{1} → sProp 𝕄) :
    accO c g ch X ⊢ iprop((accO c g ch X -∗ WP c (k X) Q)
      -∗ WP c (ld (accM g) (Rect.unit (s := SA g) off (SB g).size inb) (hB g) k) Q) := by
  subst h
  exact wp_ld c (accM g) (rC g ch) (fun _ => rfl) (hB g) X k Q

/-- A chunk of the accumulator loaded. -/
theorem wp_get (μ : Fin 8) (X : FVec F (SB g) .bf16) (k : FVec F (SB g) .bf16 → P1 F) (Q : PUnit.{1} → sProp 𝕄) :
    accO c g (xr c μ) X ⊢ iprop((accO c g (xr c μ) X -∗ WP c (k X) Q) -∗ WP c (ld (accM g) (rA g c μ) (hB g) k) Q) :=
  wp_get_at c g (xr c μ) _ (offA_eq c μ) _ X k Q

/-- The device's own chunk of the accumulator loaded. -/
theorem wp_get_own (X : FVec F (SB g) .bf16) (k : FVec F (SB g) .bf16 → P1 F) (Q : PUnit.{1} → sProp 𝕄) :
    accO c g (xr c 0) X ⊢ iprop((accO c g (xr c 0) X -∗ WP c (k X) Q) -∗ WP c (ld (accM g) (rF g c) (hB g) k) Q) :=
  wp_get_at c g (xr c 0) _ ((offF_eq c).trans (by rw [xr_zero])) _ X k Q

/-- A slot loaded: its contents, flat. -/
theorem wp_slot (i : Fin 7) (X : FVec F (SB g) .bf16) (k : FVec F (SB g) .bf16 → P1 F) (Q : PUnit.{1} → sProp 𝕄) :
    slotO c g i X ⊢ iprop((slotO c g i X -∗ WP c (k X) Q) -∗ WP c (ld (rcvM g) (rR g i) (hB1 g) fun v => k (flatV g v)) Q) := by
  unfold slotO owns ld
  iintro ⟨%f, %hf, H⟩ Hk
  iapply (wp_load_rect 𝒱₀ (c : Thread nD τ) none Set.univ (m := rcvM g) (r := rR g i) (S := (slotB g i).view.set) (f := f)
    (by rw [show (slotB g i).view.set = ((rcvM g).access (rR g i)).set from View.set_reshape (v := (rcvM g).view.slice (rR g i)) _])) $$ H
  iintro H
  rw [show flatV g (((rcvM g).access (rR g i)).read (Elt F) f) = X from hf]
  iapply Hk
  iexists f
  isplitr; · ipureintro; exact hf
  iexact H

/-- A block stored into the result's columns. -/
theorem wp_out (X v : FVec F (SB g) .f32) (k : P1 F) (Q : PUnit.{1} → sProp 𝕄) :
    outO c g X ⊢ iprop((outO c g v -∗ WP c k Q)
      -∗ WP c (ld oM (rO g) (hB g) fun _ => .op (.store oM (rO g) v Finset.univ (rO_stores g) (.inl rfl)) fun _ => k) Q) := by
  unfold outO
  iintro H Hk
  iapply (wp_ld c oM (rO g) (fun _ => rfl) (hB g) X) $$ H
  iintro H
  iapply (wp_st c oM (rO g) (fun _ => rfl) X v) $$ H
  iexact Hk

end Group

/-! ## The weights' copy and a chunk of `x` -/

theorem hz2 : (![0, 0] : Fin 2 → ℕ) = fun _ => 0 := funext fun a => by fin_cases a <;> rfl

theorem rW_emb (j : rW.shape.Idx) : rW.emb j = j := by
  funext a; apply Fin.ext
  show (![0, 0] : Fin 2 → ℕ) a + 1 * (j a).val = (j a).val
  rw [hz2, Nat.one_mul]; exact Nat.zero_add _

theorem wp_ldW (c : Dev nD) (m : Memref sig .tc .vmem S512x2048 .bf16) (X : FVec F S512x2048 .bf16) (k : FVec F S512x2048 .bf16 → P1 F)
    (Q : PUnit.{1} → sProp 𝕄) :
    owns (c : Thread nD τ) m fullShare X
      ⊢ iprop((owns (c : Thread nD τ) m fullShare X -∗ WP c (k X) Q) -∗ WP c (ld m rW h_S512x2048 k) Q) := by
  have h := wp_ld_part c m rW h_S512x2048 X k Q
  rwa [show (fun j => X (rW.emb j)) = X from funext fun j => congrArg X (rW_emb j)] at h

/-- The weights copied. -/
theorem wp_start (c : Dev nD) (w b : FVec F S512x2048 .bf16) (k : P1 F) (Q : PUnit.{1} → sProp 𝕄) :
    iprop(owns (c : Thread nD τ) wM fullShare w ∗ owns (c : Thread nD τ) bM fullShare b)
      ⊢ iprop((owns (c : Thread nD τ) wM fullShare w -∗ owns (c : Thread nD τ) bM fullShare (k0_pay1 w) -∗ WP c k Q) -∗ WP c (startC k) Q) := by
  unfold startC
  iintro ⟨Hw, Hb⟩ Hk
  iapply (wp_ldW c wM w) $$ Hw
  iintro Hw
  iapply (wp_ldW c bM b) $$ Hb
  iintro Hb
  unfold owns
  icases Hb with ⟨%f, -, H⟩
  iapply (wp_store 𝒱₀ (c : Thread nD τ) none Set.univ (m := bM) (r := rW) (Mk := Finset.univ) (S := (bM : Memref sig .tc .vmem S512x2048 .bf16).view.set) (f := f)
    (View.set_slice_subset _ _)) $$ H
  iintro H
  iapply Hk $$ Hw
  iexists (((bM : Memref sig .tc .vmem S512x2048 .bf16).access rW : View sig .tc _ _ _).write (Elt F) f (k0_pay1 w) Finset.univ)
  isplitr [H]
  · ipureintro
    exact (View.read_whole cc0_scratch6 _).trans (Memref.write_access_unit_zero_univ (Elt F) cc0_scratch6 hz2 _ f _)
  iexact H

/-- A chunk of an array over the rows of `x`. -/
def xch (X : FVec F S4096x512 .bf16) (ch : Dev nD) : FVec F S512x512 .bf16 := fun j => X ((rCX ch).emb j)

theorem wp_ldX_at (c ch : Dev nD) (off : Fin 2 → ℕ) (h : off = offC ch) (inb : ∀ a, off a + S512x512.size a ≤ S4096x512.size a)
    (X : FVec F S4096x512 .bf16) (k : FVec F S512x512 .bf16 → P1 F) (Q : PUnit.{1} → sProp 𝕄) :
    owns (c : Thread nD τ) xM fullShare X
      ⊢ iprop((owns (c : Thread nD τ) xM fullShare X -∗ WP c (k (xch X ch)) Q)
          -∗ WP c (ld xM (Rect.unit (s := S4096x512) off S512x512.size inb) h_S512x512 k) Q) := by
  subst h
  exact wp_ld_part c xM (rCX ch) h_S512x512 X k Q

/-- A chunk's product, stored into the three accumulators. -/
theorem wp_chunk (c : Dev nD) (μ : Fin 8) (X : FVec F S4096x512 .bf16) (w : FVec F S512x2048 .bf16) (Y : (g : Fin 3) → FVec F (SB g) .bf16)
    (k : P1 F) (Q : PUnit.{1} → sProp 𝕄) :
    iprop(owns (c : Thread nD τ) xM fullShare X ∗ owns (c : Thread nD τ) bM fullShare w
        ∗ accO c 0 (xr c μ) (Y 0) ∗ accO c 1 (xr c μ) (Y 1) ∗ accO c 2 (xr c μ) (Y 2))
      ⊢ iprop((owns (c : Thread nD τ) xM fullShare X -∗ owns (c : Thread nD τ) bM fullShare w
          -∗ accO c 0 (xr c μ) (colsV 0 (prodV (xch X (xr c μ)) w)) -∗ accO c 1 (xr c μ) (colsV 1 (prodV (xch X (xr c μ)) w))
          -∗ accO c 2 (xr c μ) (colsV 2 (prodV (xch X (xr c μ)) w)) -∗ WP c k Q) -∗ WP c (chunkC c μ k) Q) := by
  unfold chunkC
  iintro ⟨Hx, Hb, H0, H1, H2⟩ Hk
  iapply (wp_ldX_at c (xr c μ) _ (offX_eq c μ) _ X) $$ Hx
  iintro Hx
  iapply (wp_ldW c bM w) $$ Hb
  iintro Hb
  iapply (wp_put c 0 μ (Y 0)) $$ H0
  iintro H0
  iapply (wp_put c 1 μ (Y 1)) $$ H1
  iintro H1
  iapply (wp_put c 2 μ (Y 2)) $$ H2
  iintro H2
  iapply Hk $$ Hx Hb H0 H1 H2

end Cert.RS

end
-- ==== Proof.Pieces.lean ====
/-
# Buffers as pieces

An accumulator held whole is its eight row chunks, the landing buffer of a group its seven slots, the result its three
column blocks; and each family of pieces joins back to the buffer.
-/
module

public import proofs.«01_k».proof.Proof.Blocks
public import Idealize.ShloMosaic.Lib.Ring

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A big conjunction is monotone in its members. -/
theorem bigMono {I : Type} {S : Finset I} {Φ Ψ : I → sProp 𝕄} (h : ∀ i ∈ S, Φ i ⊢ Ψ i) : bigSep S Φ ⊢ bigSep S Ψ := bigSep_mono h

section Any

variable (c : Dev nD) {s : Shape} {e : EltTy} (m : Memref sig .tc .vmem s e) {T : Type} [Fintype T] [DecidableEq T]
  (r : T → Rect s) (hr : ∀ t a, (r t).stride a = 1) (hd : ∀ t t', t ≠ t' → Disjoint (r t).set (r t').set)
  (hcov : (Finset.univ : Finset T).biUnion (fun t => (r t).set) = Finset.univ)

include hd hcov

/-- A memref held at some contents is each of its pieces held at some contents, -/
theorem split_any : (iprop(∃ X, owns (c : Thread nD τ) m fullShare X) : sProp 𝕄)
    ⊢ bigSep Finset.univ fun t => iprop(∃ X, owns (c : Thread nD τ) (m.slice (r t) (hr t)) fullShare X) := by
  iintro ⟨%X, H⟩
  ihave H := (owns_rects (c : Thread nD τ) m fullShare r hr hd hcov X) $$ H
  iapply (bigMono fun t _ => show owns (c : Thread nD τ) (m.slice (r t) (hr t)) fullShare (fun j => X ((r t).emb j))
    ⊢ (iprop(∃ X, owns (c : Thread nD τ) (m.slice (r t) (hr t)) fullShare X) : sProp 𝕄) from by
      iintro H; iexists _; iexact H)
  iexact H

/-- and back. -/
theorem join_any : (bigSep Finset.univ fun t => iprop(∃ X, owns (c : Thread nD τ) (m.slice (r t) (hr t)) fullShare X) : sProp 𝕄)
    ⊢ iprop(∃ X, owns (c : Thread nD τ) m fullShare X) := by
  refine (BI.bigSep_exists_pi Finset.univ fun t (X : (r t).shape.Idx → Elt F e) =>
    (owns (c : Thread nD τ) (m.slice (r t) (hr t)) fullShare X : sProp 𝕄)).trans ?_
  iintro ⟨%Y, H⟩
  have hX : ∃ X : s.Idx → Elt F e, ∀ t j, X ((r t).emb j) = Y t j := by
    have hex : ∀ i : s.Idx, ∃ v : Elt F e, ∀ t j, (r t).emb j = i → v = Y t j := by
      intro i
      obtain ⟨t, -, hi⟩ := Finset.mem_biUnion.mp (hcov.symm ▸ Finset.mem_univ i)
      rw [← Rect.map_emb_univ, Finset.mem_map] at hi
      obtain ⟨j, -, hj⟩ := hi
      refine ⟨Y t j, fun t' j' hj' => ?_⟩
      have hm : i ∈ (r t).set := by rw [← Rect.map_emb_univ, ← hj]; exact Finset.mem_map_of_mem _ (Finset.mem_univ j)
      have hm' : i ∈ (r t').set := by rw [← Rect.map_emb_univ, ← hj']; exact Finset.mem_map_of_mem _ (Finset.mem_univ j')
      by_cases ht : t = t'
      · subst ht
        rw [(r t).emb.injective (hj.trans hj'.symm)]
      · exact absurd hm' (Finset.disjoint_left.mp (hd t t' ht) hm)
    exact ⟨fun i => (hex i).choose, fun t j => (hex ((r t).emb j)).choose_spec t j rfl⟩
  obtain ⟨X, hX⟩ := hX
  iexists X
  iapply (owns_of_rects (c : Thread nD τ) m fullShare r hr hd hcov X)
  iapply (Entails.of_eq (bigSep_congr fun t _ => by rw [show (fun j => X ((r t).emb j)) = Y t from funext fun j => hX t j]))
  iexact H

end Any

/-! ## Accumulators -/

theorem chunk_disjoint (g : Fin 3) (b b' : Dev nD) (h : b ≠ b') : Disjoint (rC g b).set (rC g b').set :=
  Ring.lead_disjoint (s := SA g) (NB := 8) 0 512 offC (SB g).size (fun b => inbC (wd g) b) (fun b => rfl) rfl b b' h
theorem chunk_cover (g : Fin 3) : (Finset.univ : Finset (Dev nD)).biUnion (fun b => (rC g b).set) = Finset.univ :=
  Ring.lead_cover (s := SA g) (NB := 8) 0 512 offC (SB g).size (fun b => inbC (wd g) b) (fun b => rfl)
    (fun b a ha => by fin_cases a; exact absurd rfl ha; rfl) rfl (fun a ha => by fin_cases a; exact absurd rfl ha; rfl) rfl

/-- The masks name the chunks of a device. -/
def chE (c : Dev nD) : Fin 8 ≃ Dev nD := ⟨fun μ => xr c μ, fun ch => xr c ch, by revert c; decide +kernel, by revert c; decide +kernel⟩

theorem acc_split (c : Dev nD) (g : Fin 3) : (iprop(∃ X, owns (c : Thread nD τ) (accM g) fullShare X) : sProp 𝕄)
    ⊢ bigSep Finset.univ fun μ : Fin 8 => iprop(∃ X, accO c g (xr c μ) X) := by
  refine (split_any c (accM g) (rC g) (fun _ _ => rfl) (chunk_disjoint g) (chunk_cover g)).trans ?_
  exact Entails.of_eq (bigSep_univ_equiv (chE c) _)
theorem acc_join (c : Dev nD) (g : Fin 3) : (bigSep Finset.univ fun μ : Fin 8 => iprop(∃ X, accO c g (xr c μ) X) : sProp 𝕄)
    ⊢ iprop(∃ X, owns (c : Thread nD τ) (accM g) fullShare X) := by
  have h := join_any (F := F) c (accM g) (rC g) (fun _ _ => rfl) (chunk_disjoint g) (chunk_cover g)
  rw [bigSep_univ_equiv (chE c)] at h
  exact h

/-! ## Slots -/

theorem slot_disjoint (g : Fin 3) (k k' : Fin 7) (h : k ≠ k') : Disjoint (rR g k).set (rR g k').set :=
  Ring.lead_disjoint (s := SR g) (NB := 7) 0 1 (fun k => ![k.val, 0, 0]) (SB1 g).size (inbR g) (fun b => (Nat.one_mul _).symm) rfl k k' h
theorem slot_cover (g : Fin 3) : (Finset.univ : Finset (Fin 7)).biUnion (fun k => (rR g k).set) = Finset.univ :=
  Ring.lead_cover (s := SR g) (NB := 7) 0 1 (fun k => ![k.val, 0, 0]) (SB1 g).size (inbR g) (fun b => (Nat.one_mul _).symm)
    (fun b a ha => by fin_cases a; exact absurd rfl ha; rfl; rfl) rfl (fun a ha => by fin_cases a; exact absurd rfl ha; rfl; rfl) rfl

/-- A slot owned flat is the slot owned as a piece of the landing buffer. -/
theorem slot_flat (c : Dev nD) (g : Fin 3) (k : Fin 7) :
    (iprop(∃ X, slotO c g k X) : sProp 𝕄) = iprop(∃ X, owns (c : Thread nD τ) ((rcvM g).slice (rR g k) (fun _ => rfl)) fullShare X) := by
  have hs : (slotB g k).view.set = ((rcvM g).slice (rR g k) (fun _ => rfl)).view.set := View.set_reshape (v := (rcvM g).view.slice (rR g k)) _
  have h₁ : (iprop(∃ X, slotO c g k X) : sProp 𝕄) ⊢ iprop(∃ X, owns (c : Thread nD τ) ((rcvM g).slice (rR g k) (fun _ => rfl)) fullShare X) := by
    unfold slotO owns
    iintro ⟨%X, %f, -, H⟩
    iexists _; iexists f
    isplitr; · ipureintro; rfl
    rw [← hs]; iexact H
  have h₂ : (iprop(∃ X, owns (c : Thread nD τ) ((rcvM g).slice (rR g k) (fun _ => rfl)) fullShare X) : sProp 𝕄) ⊢ iprop(∃ X, slotO c g k X) := by
    unfold slotO owns
    iintro ⟨%X, %f, -, H⟩
    iexists _; iexists f
    isplitr; · ipureintro; rfl
    rw [hs]; iexact H
  exact BI.equiv_iff.mp ⟨h₁, h₂⟩

theorem slots_split (c : Dev nD) (g : Fin 3) : (iprop(∃ X, owns (c : Thread nD τ) (rcvM g) fullShare X) : sProp 𝕄)
    ⊢ bigSep Finset.univ fun k : Fin 7 => iprop(∃ X, slotO c g k X) := by
  refine (split_any c (rcvM g) (rR g) (fun _ _ => rfl) (slot_disjoint g) (slot_cover g)).trans ?_
  exact Entails.of_eq (bigSep_congr fun k _ => (slot_flat c g k).symm)
theorem slots_join (c : Dev nD) (g : Fin 3) : (bigSep Finset.univ fun k : Fin 7 => iprop(∃ X, slotO c g k X) : sProp 𝕄)
    ⊢ iprop(∃ X, owns (c : Thread nD τ) (rcvM g) fullShare X) :=
  (Entails.of_eq (bigSep_congr fun k _ => slot_flat c g k)).trans
    (join_any c (rcvM g) (rR g) (fun _ _ => rfl) (slot_disjoint g) (slot_cover g))

/-! ## The result -/

theorem out_disjoint (g g' : Fin 3) (h : g ≠ g') : Disjoint (rO g).set (rO g').set := by
  rw [Finset.disjoint_left]
  intro i hi hi'
  have h1 := (Rect.mem_set_unit.mp hi) 1
  have h2 := (Rect.mem_set_unit.mp hi') 1
  fin_cases g <;> fin_cases g' <;> first | exact absurd rfl h | (dsimp [colOff, wd] at h1 h2; omega)
theorem out_cover : (Finset.univ : Finset (Fin 3)).biUnion (fun g => (rO g).set) = Finset.univ := by
  ext i
  simp only [Finset.mem_biUnion, Finset.mem_univ, true_and, iff_true]
  have h0 : (i 0).val < 512 := (i 0).isLt
  have h1 : (i 1).val < 2048 := (i 1).isLt
  by_cases h : (i 1).val < 768
  · refine ⟨0, Rect.mem_set_unit.mpr fun a => ?_⟩
    fin_cases a <;> dsimp [colOff, wd] <;> omega
  by_cases h' : (i 1).val < 1408
  · refine ⟨1, Rect.mem_set_unit.mpr fun a => ?_⟩
    fin_cases a <;> dsimp [colOff, wd] <;> omega
  · refine ⟨2, Rect.mem_set_unit.mpr fun a => ?_⟩
    fin_cases a <;> dsimp [colOff, wd] <;> omega

theorem out_split (c : Dev nD) : (iprop(∃ X, owns (c : Thread nD τ) oM fullShare X) : sProp 𝕄)
    ⊢ bigSep Finset.univ fun g : Fin 3 => iprop(∃ X, outO c g X) :=
  split_any c oM rO (fun _ _ => rfl) out_disjoint out_cover

/-- The array whose columns of group `g` are `G g`. -/
def ofCols (G : (g : Fin 3) → FVec F (SB g) .f32) : FVec F S512x2048 .f32 := fun i =>
  if h : ∃ (g : Fin 3) (j : (SB g).Idx), (rO g).emb j = i then G h.choose h.choose_spec.choose
  else G 0 (fun a => ⟨0, by fin_cases a <;> decide⟩)

theorem ofCols_emb (G : (g : Fin 3) → FVec F (SB g) .f32) (g : Fin 3) (j : (SB g).Idx) : ofCols G ((rO g).emb j) = G g j := by
  have h : ∃ (g' : Fin 3) (j' : (SB g').Idx), (rO g').emb j' = (rO g).emb j := ⟨g, j, rfl⟩
  unfold ofCols
  rw [dif_pos h]
  generalize h.choose_spec.choose_spec = hs
  revert hs
  generalize h.choose_spec.choose = j'
  revert j'
  generalize h.choose = g'
  intro j' hs
  by_cases hg : g' = g
  · subst hg
    rw [(rO g').emb.injective hs]
  · exfalso
    have hm : (rO g).emb j ∈ (rO g').set := by rw [← hs, ← Rect.map_emb_univ]; exact Finset.mem_map_of_mem _ (Finset.mem_univ j')
    have hm' : (rO g).emb j ∈ (rO g).set := by rw [← Rect.map_emb_univ]; exact Finset.mem_map_of_mem _ (Finset.mem_univ j)
    exact absurd hm' (Finset.disjoint_left.mp (out_disjoint g' g hg) hm)

theorem out_join (c : Dev nD) (G : (g : Fin 3) → FVec F (SB g) .f32) : (bigSep Finset.univ fun g : Fin 3 => outO c g (G g) : sProp 𝕄)
    ⊢ owns (c : Thread nD τ) oM fullShare (ofCols G) := by
  have h : (bigSep Finset.univ fun g : Fin 3 => outO c g (G g) : sProp 𝕄)
      = bigSep Finset.univ fun g : Fin 3 => owns (c : Thread nD τ) (oM.slice (rO g) (fun _ => rfl)) fullShare (fun j => ofCols G ((rO g).emb j)) :=
    bigSep_congr fun g _ => by
      unfold outO
      rw [show (fun j => ofCols G ((rO g).emb j)) = G g from funext fun j => ofCols_emb G g j]
  rw [h]
  exact owns_of_rects (Val := Elt F) (c : Thread nD τ) oM fullShare rO (fun _ _ => rfl) out_disjoint out_cover (ofCols G)

end Cert.RS

end
-- ==== Proof.Protocol.lean ====
/-
# The protocol

What every block holds (`stageV`, `outG`) and what every semaphore hands over.

Contents. In group `g`, block `ch` of device `c` holds after stage 0 the device's own product (`stageV g 1`); each later
stage adds the block of the same number of the device's partner at that stage (`stageV g 2`, `stageV g 3`); the last sum
goes through gelu into the result (`outG`).

Semaphores, each used for one round:
* the barrier of device `c` gets one unit from each of its three partners (duty `i` from the partner of mask `bm i`); with
  it the partner hands over those of its landing slots that `c`'s transfers go to;
* the receive semaphore `(g, k)` of `c` is credited by the transfer `(g, k)` of the partner `c xor pm g k`; it hands `c` its
  slot `(g, k)`, holding the partner's block at the transfer's stage;
* the send semaphore `(g, k)` of `c` is credited by `c`'s own transfer, and hands back the transfer's source block.

Levels: barrier 1, receive 2 to 4 by stage, all others 0; a device waits only below what it still owes.
-/
module

public import proofs.«01_k».proof.Proof.Pieces

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S4096x512 .bf16) (w : Dev nD → FVec F S512x2048 .bf16)

/-! ## Contents -/

/-- Device `c`'s own product, chunk `ch`, the columns of group `g`. -/
def prodAt (g : Fin 3) (c ch : Dev nD) : FVec F (SB g) .bf16 := colsV g (prodV (xch (x c) ch) (k0_pay1 (w c)))

def stage2 (g : Fin 3) (c ch : Dev nD) : FVec F (SB g) .bf16 := addV g (prodAt x w g c ch) (prodAt x w g (xr c (pmask g 1)) ch)
def stage3 (g : Fin 3) (c ch : Dev nD) : FVec F (SB g) .bf16 := addV g (stage2 x w g c ch) (stage2 x w g (xr c (pmask g 2)) ch)

/-- The partial sum of a block before the transfers of a stage. -/
def stageV (g : Fin 3) : Fin 4 → Dev nD → Dev nD → FVec F (SB g) .bf16
  | 0 => prodAt x w g | 1 => prodAt x w g | 2 => stage2 x w g | 3 => stage3 x w g

/-- The columns of group `g` of device `c`'s result. -/
def outG (g : Fin 3) (c : Dev nD) : FVec F (SB g) .f32 := geluV g (sumV g (stage3 x w g c c) (stage3 x w g (xr c (pmask g 3)) c))

/-! ## Cells -/

/-- A transfer: its group and its number. -/
abbrev TI : Type := Fin 3 × Fin 7
/-- A cell of a device: the barrier, or a transfer's send (`false`) or receive (`true`) semaphore. -/
abbrev CI : Type := Option (Bool × TI)

abbrev osem : Bool × TI → SemLoc sig
  | (false, q) => .dma (sendS q.1 q.2) | (true, q) => .dma (recvS q.1 q.2)
abbrev csem : CI → SemLoc sig
  | none => .reg barS | some b => osem b

theorem osem_injective : Function.Injective osem := by decide +kernel
theorem csem_injective : Function.Injective csem := by
  intro i j h
  match i, j, h with
  | none, none, _ => rfl
  | none, some (false, _), h => exact absurd h (by intro h; cases h)
  | none, some (true, _), h => exact absurd h (by intro h; cases h)
  | some (false, _), none, h => exact absurd h (by intro h; cases h)
  | some (true, _), none, h => exact absurd h (by intro h; cases h)
  | some a, some b, h => exact congrArg some (osem_injective h)

/-- The cell a semaphore is, if it is one. -/
def dec (s : SemLoc sig) : Option CI := if h : ∃ i, csem i = s then some h.choose else none
theorem dec_csem (i : CI) : dec (csem i) = some i := by
  have h : ∃ j, csem j = csem i := ⟨i, rfl⟩
  unfold dec; rw [dif_pos h, csem_injective h.choose_spec]

abbrev cell (c : Dev nD) (i : CI) : GSem nD τ sig := ((c : Thread nD τ), csem i)
abbrev barC' (c : Dev nD) : GSem nD τ sig := cell c none
abbrev sndC (c : Dev nD) (q : TI) : GSem nD τ sig := cell c (some (false, q))
abbrev rcvC (c : Dev nD) (q : TI) : GSem nD τ sig := cell c (some (true, q))

theorem cell_injective : Function.Injective (fun p : Dev nD × CI => cell p.1 p.2) := by
  rintro ⟨c, i⟩ ⟨c', i'⟩ h
  have h1 : c = c' := congrArg (fun g : GSem nD τ sig => g.1.1) h
  subst h1
  exact congrArg (Prod.mk c) (csem_injective (congrArg (fun g : GSem nD τ sig => g.2) h))

/-- The units a transfer of a group credits. -/
def NB (g : Fin 3) : ℕ := (slotB g 0).view.dmaCredit
theorem NB_pos (g : Fin 3) : 0 < NB g := View.dmaCredit_pos _ (hB g)
theorem slot_credit : ∀ (g : Fin 3) (k : Fin 7), (slotB g k).view.dmaCredit = NB g
  | 0, _ => rfl | 1, _ => rfl | 2, _ => rfl
theorem src_credit : ∀ (g : Fin 3) (d : Dev nD) (μ : Fin 7), (srcB g d μ).view.dmaCredit = NB g
  | 0, _, _ => rfl | 1, _, _ => rfl | 2, _, _ => rfl

/-! ## The schedule -/

/-- The masks of the barrier's signals. -/
def bm : Fin 3 → Fin 8 | 0 => 1 | 1 => 3 | 2 => 4

/-- A slot at any contents. -/
def slotAny (c : Dev nD) (q : TI) : sProp 𝕄 := iprop(∃ X, slotO c q.1 q.2 X)

/-- The slots of `c` that the transfers of its partner of mask `μ` go to. -/
def slotsOf (c : Dev nD) (μ : Fin 8) : sProp 𝕄 :=
  bigSep Finset.univ fun q : TI => if pm q.1 q.2 = μ then slotAny (F := F) c q else iprop(emp)

def barPay (c : Dev nD) (i : Fin 3) : sProp 𝕄 := slotsOf (xr c (bm i)) (bm i)
def sndPay (c : Dev nD) (q : TI) : sProp 𝕄 := iprop(∃ X, accO c q.1 (xr c (sm q.1 q.2)) X)
def rcvPay (c : Dev nD) (q : TI) : sProp 𝕄 :=
  slotO c q.1 q.2 (stageV x w q.1 (stg q.2) (xr c (pm q.1 q.2)) (xr c (rm q.1 q.2)))

instance slotAny_storable (c : Dev nD) (q : TI) : BI.Storable (upEmb : UEmb _ 𝕄) (slotAny (F := F) c q) := by
  unfold slotAny; infer_instance
instance slotsOf_storable (c : Dev nD) (μ : Fin 8) : BI.Storable (upEmb : UEmb _ 𝕄) (slotsOf (F := F) c μ) := by
  unfold slotsOf
  have (q : TI) : BI.Storable (upEmb : UEmb _ 𝕄) (if pm q.1 q.2 = μ then slotAny (F := F) c q else iprop(emp)) := by split <;> infer_instance
  infer_instance

def dutiesOf : Option CI → Finset (Fin 3)
  | none => ∅ | some none => Finset.univ | some (some _) => {0}
def amountOf : Option CI → ℕ
  | some (some (_, q)) => NB q.1 | _ => 1
def payOf (c : Dev nD) : Option CI → Fin 3 → sProp 𝕄
  | none => fun _ => iprop(emp) | some none => barPay c
  | some (some (false, q)) => fun _ => sndPay c q | some (some (true, q)) => fun _ => rcvPay x w c q

/-- The schedule of the exchange: one round, round 0, at each of a device's cells. -/
def Rd : Rounds.Schedule (GSem nD τ sig) (Fin 3) 𝕄 where
  duties g r := if r = 0 ∧ g.1.2 = .tc then dutiesOf (dec g.2) else ∅
  unitless _ := False
  amount g _ _ := amountOf (dec g.2)
  payload g _ d := payOf x w g.1.1 (dec g.2) d
  amount_pos g _ _ _ := by
    unfold amountOf; split
    · exact NB_pos _
    · exact Nat.one_pos

instance Rd_storable (g : GSem nD τ sig) (r : ℕ) (d : Fin 3) : BI.Storable (upEmb : UEmb _ 𝕄) ((Rd x w).payload g r d) := by
  show BI.Storable upEmb (payOf x w g.1.1 (dec g.2) d)
  match dec g.2 with
  | none => unfold payOf; infer_instance
  | some none => unfold payOf barPay; infer_instance
  | some (some (false, q)) => unfold payOf sndPay; infer_instance
  | some (some (true, q)) => unfold payOf rcvPay; infer_instance

section Sched
variable (c : Dev nD)

theorem duties_eq (i : CI) : (Rd x w).duties (cell c i) 0 = dutiesOf (some i) := by
  show (if 0 = 0 ∧ (c : Thread nD τ).2 = .tc then dutiesOf (dec (csem i)) else ∅) = _
  rw [if_pos ⟨rfl, rfl⟩, dec_csem]
theorem duties_later (g : GSem nD τ sig) : ∀ r, 1 ≤ r → (Rd x w).duties g r = ∅ := fun r hr => if_neg fun h => by omega
theorem amount_eq (i : CI) (r : ℕ) (d : Fin 3) : (Rd x w).amount (cell c i) r d = amountOf (some i) := by
  show amountOf (dec (csem i)) = _
  rw [dec_csem]
theorem payload_eq (i : CI) (r : ℕ) (d : Fin 3) : (Rd x w).payload (cell c i) r d = payOf x w c (some i) d := by
  show payOf x w c (dec (csem i)) d = _
  rw [dec_csem]

theorem expect_bar : (Rd x w).expect (barC' c) 0 = 3 := by
  unfold Schedule.expect Schedule.amountOf
  rw [duties_eq, Finset.sum_congr rfl fun d _ => amount_eq x w c none 0 d]; rfl
theorem expect_some (b : Bool) (q : TI) : (Rd x w).expect (cell c (some (b, q))) 0 = NB q.1 := by
  unfold Schedule.expect Schedule.amountOf
  rw [duties_eq, Finset.sum_congr rfl fun d _ => amount_eq x w c (some (b, q)) 0 d]
  exact Finset.sum_singleton _ _

theorem rest_bar : bigSep ((Rd x w).duties (barC' c) 0 \ ∅) (fun d => (Rd x w).payload (barC' c) 0 d)
    = iprop(barPay c 0 ∗ barPay c 1 ∗ barPay c 2) := by
  rw [Finset.sdiff_empty, duties_eq, bigSep_congr fun d _ => payload_eq x w c none 0 d]
  exact bigSep_univ_eq_bigSepL [0, 1, 2] (by decide) (by decide) _
theorem rest_some (b : Bool) (q : TI) : bigSep ((Rd x w).duties (cell c (some (b, q))) 0 \ ∅) (fun d => (Rd x w).payload (cell c (some (b, q))) 0 d)
    = payOf x w c (some (some (b, q))) 0 := by
  rw [Finset.sdiff_empty, duties_eq, bigSep_congr fun d _ => payload_eq x w c (some (b, q)) 0 d]
  exact bigSep_singleton

end Sched

/-! ## What a device owes; levels -/

/-- What the transfers among the steps still to come credit. -/
def dues (c : Dev nD) : List Step → CellTallies nD τ sig Unit
  | [] => 0
  | .send g k :: l => dues c l + tallyAt (rcvC (xr c (pm g k)) (g, k)) () (NB g)
  | .chunk _ :: l => dues c l
  | .recv _ _ :: l => dues c l
  | .fin _ :: l => dues c l
  | .free _ _ :: l => dues c l

/-- What a device owes at launch: the transfers' credits and the three barrier units. -/
def O₂ (c : Dev nD) : CellTallies nD τ sig Unit := dues c steps + tallyAt (barC' (xr c 4)) () 1
def O₁ (c : Dev nD) : CellTallies nD τ sig Unit := O₂ c + tallyAt (barC' (xr c 3)) () 1
def O₀ (c : Dev nD) : CellTallies nD τ sig Unit := O₁ c + tallyAt (barC' (xr c 1)) () 1

def L (g : GSem nD τ sig) : Finset Unit := if g.1.2 = .tc then {()} else ∅
def levOf : Option CI → ℕ
  | some none => 1 | some (some (true, q)) => 1 + (stg q.2).val | _ => 0
def lv (g : GSem nD τ sig) (_ : Unit) : ℕ := levOf (dec g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (i : CI) (u : Unit) : lv (cell c i) u = levOf (some i) := by
  show levOf (dec (csem i)) = _
  rw [dec_csem]

/-- The transfers still to come are all of a stage above `n`. -/
def above (n : ℕ) : List Step → Bool
  | [] => true
  | .send _ k :: l => decide (n < 1 + (stg k).val) && above n l
  | .chunk _ :: l => above n l
  | .recv _ _ :: l => above n l
  | .fin _ :: l => above n l
  | .free _ _ :: l => above n l

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem dues_pos (c : Dev nD) (n : ℕ) : ∀ (l : List Step), above n l = true → ∀ {g : GSem nD τ sig} {u : Unit}, 0 < dues c l g u →
    ∃ (e : Dev nD) (q : TI), g = rcvC e q ∧ n < 1 + (stg q.2).val
  | [], _, g, u, h => absurd h (Nat.lt_irrefl 0)
  | .send g' k :: l, ha, g, u, h => by
    unfold above at ha
    rw [Bool.and_eq_true, decide_eq_true_eq] at ha
    have h' : 0 < dues c l g u + tallyAt (rcvC (xr c (pm g' k)) (g', k)) () (NB g') g u := h
    rcases Nat.eq_zero_or_pos (dues c l g u) with h0 | h0
    · rw [h0, Nat.zero_add] at h'
      exact ⟨_, (g', k), tally_pos h', ha.1⟩
    · exact dues_pos c n l ha.2 h0
  | .chunk _ :: l, ha, g, u, h => dues_pos c n l ha h
  | .recv _ _ :: l, ha, g, u, h => dues_pos c n l ha h
  | .fin _ :: l, ha, g, u, h => dues_pos c n l ha h
  | .free _ _ :: l, ha, g, u, h => dues_pos c n l ha h

/-- A device may wait on a cell whose level is below those of the transfers still to come. -/
theorem mayWait_dues (c : Dev nD) (s : SemLoc sig) (n : ℕ) (hs : levOf (dec s) = n) (l : List Step) (ha : above n l = true) :
    (levAts L lv : sProp 𝕄) ⊢ MayWait (c : Thread nD τ) s () (dues c l) :=
  MayOwe.of_cut (L := L) (lev := lv) n (fun p hp => by rw [Finset.mem_singleton.mp hp, L_tc]; exact Finset.mem_singleton_self _)
    (fun g u hg => by
      obtain ⟨e, q, rfl, -⟩ := dues_pos c n l ha hg
      rw [L_tc]; exact Finset.mem_singleton_self _)
    (fun p hp => by rw [Finset.mem_singleton.mp hp]; exact hs.le)
    (fun g u hg => by
      obtain ⟨e, q, rfl, h⟩ := dues_pos c n l ha hg
      rw [lv_cell]; exact h)

theorem add_pos_or {A B : CellTallies nD τ sig Unit} {g : GSem nD τ sig} {u : Unit} (h : 0 < (A + B) g u) : 0 < A g u ∨ 0 < B g u := by
  have h' : 0 < A g u + B g u := h
  omega

theorem above_zero : ∀ l : List Step, above 0 l = true
  | [] => rfl
  | .send _ k :: l => by unfold above; rw [above_zero l, Bool.and_true, decide_eq_true_eq]; omega
  | .chunk _ :: l => above_zero l
  | .recv _ _ :: l => above_zero l
  | .fin _ :: l => above_zero l
  | .free _ _ :: l => above_zero l

/-- What a device owes at launch lies at barrier and receive cells. -/
theorem O₀_pos {c : Dev nD} {g : GSem nD τ sig} {u : Unit} (h : 0 < O₀ c g u) : ∃ (e : Dev nD) (i : CI), g = cell e i ∧ 0 < levOf (some i) := by
  unfold O₀ at h
  rcases add_pos_or h with h | h
  · unfold O₁ at h
    rcases add_pos_or h with h | h
    · unfold O₂ at h
      rcases add_pos_or h with h | h
      · obtain ⟨e, q, hg, hl⟩ := dues_pos c 0 steps (above_zero _) h
        exact ⟨e, some (true, q), hg, hl⟩
      · exact ⟨_, none, tally_pos h, Nat.one_pos⟩
    · exact ⟨_, none, tally_pos h, Nat.one_pos⟩
  · exact ⟨_, none, tally_pos h, Nat.one_pos⟩

/-- A staging cell is at level 0: a device may wait on it whatever it owes. -/
theorem mayWait_stage (c : Dev nD) (s : SemLoc sig) (hs : levOf (dec s) = 0) (O : CellTallies nD τ sig Unit) (hO : O = O₀ c ∨ O = 0) :
    (levAts L lv : sProp 𝕄) ⊢ MayWait (c : Thread nD τ) s () O := by
  rcases hO with rfl | rfl
  · exact MayOwe.of_cut (L := L) (lev := lv) 0 (fun p hp => by rw [Finset.mem_singleton.mp hp, L_tc]; exact Finset.mem_singleton_self _)
      (fun g u hg => by
        obtain ⟨e, i, rfl, -⟩ := O₀_pos hg
        rw [L_tc]; exact Finset.mem_singleton_self _)
      (fun p hp => by rw [Finset.mem_singleton.mp hp]; exact hs.le)
      (fun g u hg => by
        obtain ⟨e, i, rfl, h⟩ := O₀_pos hg
        rw [lv_cell]; exact h)
  · rw [MayWait_zero]; iintro -; iempintro

end Cert.RS

end
-- ==== Proof.Steps.lean ====
/-
# One step of the exchange

What is held of every block, transfer and slot is a finite state (`St`); each step of the kernel changes it by a table
(`next`). `wp_step`: a step run from what one state stands for ends at what the next state stands for. `wp_run`: so does a
list of steps, the owed credits going down with it.
-/
module

public import proofs.«01_k».proof.Proof.Protocol

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S4096x512 .bf16) (w : Dev nD → FVec F S512x2048 .bf16)

/-! ## The cells' records -/

/-- Every cell's invariant, at the names `K`, and that its round 0 is reached; the levels. -/
def recs (K : Dev nD × CI → ℕ) : sProp 𝕄 :=
  iprop((bigSep Finset.univ fun p : Dev nD × CI => iprop(cellInv ER (Rd x w) (K p) (cell p.1 p.2) ∗ reached ER (cell p.1 p.2) 0))
    ∗ levAts L lv)

instance recs_persistent (K : Dev nD × CI → ℕ) : BI.Persistent (recs x w K) := by unfold recs; infer_instance

variable (K : Dev nD × CI → ℕ)

theorem recs_at (c : Dev nD) (i : CI) : recs x w K ⊢ iprop(cellInv ER (Rd x w) (K (c, i)) (cell c i) ∗ reached ER (cell c i) 0) := by
  have h : (bigSep Finset.univ fun p : Dev nD × CI => iprop(cellInv ER (Rd x w) (K p) (cell p.1 p.2) ∗ reached ER (cell p.1 p.2) 0))
      ⊢ iprop(cellInv ER (Rd x w) (K (c, i)) (cell c i) ∗ reached ER (cell c i) 0) := bigSep_elim (Finset.mem_univ (c, i))
  unfold recs
  iintro ⟨H, -⟩
  iapply h $$ H
theorem recs_lev : recs x w K ⊢ (levAts L lv : sProp 𝕄) := by
  unfold recs
  iintro ⟨-, H⟩
  iexact H

/-! ## The operations on semaphores -/

section Ops
variable (c : Dev nD)

/-- A wait for all of a cell's round 0, owing `O`: the round's payload, and the counter at zero again. -/
theorem wait_some (b : Bool) (q : TI) (O : CellTallies nD τ sig Unit) (Ws : Waits sig Unit)
    {s : Shape} {e : EltTy} (src : Memref sig .tc .vmem s e) (dst : Memref sig .tc .vmem s e) {sem : DmaSem sig}
    (hsem : csem (some (b, q)) = .dma sem) (hc : dst.view.dmaCredit = NB q.1) (h1 h2)
    (k : P1 F) (Q : PUnit.{1} → sProp 𝕄) :
    iprop(recs x w K ∗ cred (tallyAt (cell c (some (b, q))) () (NB q.1)) ∗ owes (c : Thread nD τ) O Ws
        ∗ MayWait (c : Thread nD τ) (csem (some (b, q))) () O ∗ atPos ER (cell c (some (b, q))) 0 ∅ 0)
      ⊢ iprop(((∃ Ws', owes (c : Thread nD τ) O Ws') -∗ semVal (cell c (some (b, q))) 0 -∗ payOf x w c (some (some (b, q))) 0 -∗ WP c k Q)
          -∗ WP c (.op (.waitDma2 sem src dst h1 h2) fun _ => k) Q) := by
  iintro ⟨#HR, Hc, HO, Hm, Hat⟩ Hk
  ihave Hi := (recs_at x w K c (some (b, q))) $$ HR
  icases Hi with ⟨#Hinv, -⟩
  unfold cell
  rw [hsem]
  have hx : (Rd x w).expect (cell c (some (b, q))) 0 = NB q.1 := expect_some x w c b q
  have hr := rest_some x w c b q
  have hl := duties_later x w (cell c (some (b, q)))
  unfold cell at hx hr hl
  rw [hsem] at hx hr hl
  iapply (Rounds.wp_wait_rest_token 𝒱₀ ER (Rd x w) (c : Thread nD τ) none (κ := K (c, some (b, q)))
      (wpE_waitDma2_eq 𝒱₀ (c : Thread nD τ) none Set.univ) (Set.mem_univ _) () (O := O) (W := Ws) (R := 0) (m := 0) (T := ∅)
      (by rw [Nat.zero_add, hx]; exact hc)) $$ [Hc HO Hm Hat]
  · isplitr; · iexact Hinv
    isplitl [Hc]; · rw [hc]; iexact Hc
    isplitl [HO]; · iexact HO
    isplitl [Hm]; · iexact Hm
    iexact Hat
  iintro ⟨HO, Hat, -, Hpay⟩
  ihave Hp := (Entails.of_eq hr) $$ Hpay
  imod (Rounds.cell_close ER (Rd x w) (Set.mem_univ (K (c, some (b, q)))) (fun h => h) (R := 0 + 1) hl) $$ [Hat] with Hz
  · isplitr; · iexact Hinv
    iexact Hat
  iapply Hk $$ [HO] Hz Hp
  iexists _; iexact HO

/-- What is owed after the start of transfer `q`. -/
theorem send_some (q : TI) (n : Dev nD) (hn : n = xr c (pm q.1 q.2)) (off : Fin 2 → ℕ) (ho : off = offC (xr c (sm q.1 q.2)))
    (inb : ∀ a, off a + (SB q.1).size a ≤ (SA q.1).size a) (O : CellTallies nD τ sig Unit) (Ws : Waits sig Unit)
    (hsc h1 h2 h3) (k : P1 F) (Q : PUnit.{1} → sProp 𝕄) :
    iprop(recs x w K ∗ accO c q.1 (xr c (sm q.1 q.2)) (stageV x w q.1 (stg q.2) c (xr c (sm q.1 q.2))) ∗ slotAny (xr c (pm q.1 q.2)) q
        ∗ owes (c : Thread nD τ) (O + tallyAt (rcvC (xr c (pm q.1 q.2)) q) () (NB q.1)) Ws
        ∗ dutyTok ER (sndC c q) 0 0 ∗ dutyTok ER (rcvC (xr c (pm q.1 q.2)) q) 0 0)
      ⊢ iprop((cred (tallyAt (sndC c q) () (NB q.1)) -∗ owes (c : Thread nD τ) O Ws -∗ WP c k Q)
          -∗ WP c (.op (.enqueueDma ((accM q.1).slice (Rect.unit (s := SA q.1) off (SB q.1).size inb) (fun _ => rfl) : Memref sig .tc .vmem (SB q.1) .bf16)
              (.remote (Dev.tc n) (slotB q.1 q.2) (.dma (sendS q.1 q.2)) hsc) (.dma (recvS q.1 q.2)) h1 h2 h3) fun _ => k) Q) := by
  subst hn ho
  iintro ⟨#HR, Ha, Hs, HO, Ht1, Ht2⟩ Hk
  ihave Hi := (recs_at x w K c (some (false, q))) $$ HR
  icases Hi with ⟨#Hinv1, #Hr1⟩
  ihave Hi := (recs_at x w K (xr c (pm q.1 q.2)) (some (true, q))) $$ HR
  icases Hi with ⟨#Hinv2, #Hr2⟩
  unfold accO slotAny slotO owns
  icases Ha with ⟨%fs, %hfs, Ha⟩
  icases Hs with ⟨%X, %fd, %hfd, Hs⟩
  iapply (Rounds.wp_send_pointsTo 𝒱₀ ER (Rd x w) (c : Thread nD τ) none (κ₁ := K (c, some (false, q))) (κ₂ := K (xr c (pm q.1 q.2), some (true, q)))
    (r₁ := 0) (r₂ := 0) (d₁ := 0) (d₂ := 0) (fs := fs) (fd := fd)
    (by rw [show (((c : Thread nD τ), SemLoc.dma (sendS q.1 q.2)) : GSem nD τ sig) = sndC c q from rfl, duties_eq]; exact Finset.mem_singleton_self _)
    (by rw [show (((Dev.tc (xr c (pm q.1 q.2)) : Thread nD τ), SemLoc.dma (recvS q.1 q.2)) : GSem nD τ sig) = rcvC (xr c (pm q.1 q.2)) q from rfl, duties_eq]
        exact Finset.mem_singleton_self _)
    () () (NB q.1) (by exact slot_credit q.1 q.2) (amount_eq x w c (some (false, q)) 0 0) (amount_eq x w (xr c (pm q.1 q.2)) (some (true, q)) 0 0) O rfl (W := Ws)
    (by
      rw [show (((c : Thread nD τ), SemLoc.dma (sendS q.1 q.2)) : GSem nD τ sig) = sndC c q from rfl, payload_eq]
      show _ ⊢ sndPay c q
      unfold sndPay accO owns
      iintro H
      iexists _, fs
      isplitr; · ipureintro; exact hfs
      iexact H)
    (by
      rw [show (((Dev.tc (xr c (pm q.1 q.2)) : Thread nD τ), SemLoc.dma (recvS q.1 q.2)) : GSem nD τ sig) = rcvC (xr c (pm q.1 q.2)) q from rfl, payload_eq]
      show _ ⊢ rcvPay x w (xr c (pm q.1 q.2)) q
      unfold rcvPay slotO owns
      rw [xr_xr, xr_pm_sm]
      iintro H
      iexists _
      isplitr
      rotate_left
      · iexact H
      ipureintro
      rw [View.read_write_univ]; exact hfs)) $$ [Ha Hs HO Ht1 Ht2]
  · isplitr; · iexact Hinv1
    isplitr; · iexact Hinv2
    isplitl [Ha]; · iexact Ha
    isplitl [Hs]; · iexact Hs
    isplitl [HO]; · iexact HO
    isplitl [Ht1]; · iexact Ht1
    isplitr; · iexact Hr1
    isplitl [Ht2]; · iexact Ht2
    iexact Hr2
  iintro ⟨H1, H2⟩
  iapply Hk $$ H1 H2

/-- A landed block added into an accumulator's block. -/
theorem add_tail (g : Fin 3) (i : Fin 7) (A B : FVec F (SB g) .bf16) (k : P1 F) (Q : PUnit.{1} → sProp 𝕄) :
    iprop(accO c g (xr c (rm g i)) A ∗ slotO c g i B)
      ⊢ iprop((accO c g (xr c (rm g i)) (addV g A B) -∗ slotO c g i B -∗ WP c k Q)
        -∗ WP c (ld (accM g) (rA g c (rm g i)) (hB g) fun (a : FVec F (SB g) .bf16) =>
            ld (rcvM g) (rR g i) (hB1 g) fun (v : FVec F (SB1 g) .bf16) => putC c g (rm g i) (addV g a (flatV g v)) k) Q) := by
  iintro ⟨Ha, Hs⟩ Hk
  iapply (wp_get c g (rm g i) A (fun a => ld (rcvM g) (rR g i) (hB1 g) fun (v : FVec F (SB1 g) .bf16) => putC c g (rm g i) (addV g a (flatV g v)) k) Q) $$ Ha
  iintro Ha
  iapply (wp_slot c g i B (fun v => putC c g (rm g i) (addV g A v) k) Q) $$ Hs
  iintro Hs
  iapply (wp_put c g (rm g i) A (addV g A B) k Q) $$ Ha
  iintro Ha
  iapply Hk $$ Ha Hs

/-- The device's own block and the last landed block, summed, through gelu into the result. -/
theorem out_tail (g : Fin 3) (A B : FVec F (SB g) .bf16) (Y : FVec F (SB g) .f32) (k : P1 F) (Q : PUnit.{1} → sProp 𝕄) :
    iprop(accO c g (xr c 0) A ∗ slotO c g 6 B ∗ outO c g Y)
      ⊢ iprop((accO c g (xr c 0) A -∗ slotO c g 6 B -∗ outO c g (geluV g (sumV g A B)) -∗ WP c k Q)
        -∗ WP c (ld (accM g) (rF g c) (hB g) fun (a : FVec F (SB g) .bf16) =>
            ld (rcvM g) (rR g 6) (hB1 g) fun (v : FVec F (SB1 g) .bf16) =>
            ld oM (rO g) (hB g) fun _ =>
            .op (.store oM (rO g) (geluV g (sumV g a (flatV g v))) Finset.univ (rO_stores g) (.inl rfl)) fun _ => k) Q) := by
  iintro ⟨Ha, Hs, Ho⟩ Hk
  iapply (wp_get_own c g A (fun a => ld (rcvM g) (rR g 6) (hB1 g) fun (v : FVec F (SB1 g) .bf16) =>
            ld oM (rO g) (hB g) fun _ =>
            .op (.store oM (rO g) (geluV g (sumV g a (flatV g v))) Finset.univ (rO_stores g) (.inl rfl)) fun _ => k) Q) $$ Ha
  iintro Ha
  iapply (wp_slot c g 6 B (fun v => ld oM (rO g) (hB g) fun _ =>
            .op (.store oM (rO g) (geluV g (sumV g A v)) Finset.univ (rO_stores g) (.inl rfl)) fun _ => k) Q) $$ Hs
  iintro Hs
  iapply (wp_out c g Y (geluV g (sumV g A B)) k Q) $$ Ho
  iintro Ho
  iapply Hk $$ Ha Hs Ho

end Ops

/-! ## The state -/

/-- A block of an accumulator: lent to a transfer, of any contents, or the partial sum before a stage's transfers. -/
inductive Blk | lent | any | val (s : Fin 4)
deriving DecidableEq
/-- A transfer of the device: not started, on its way, its source back. -/
inductive Snd | idle | flying | done
deriving DecidableEq

/-- Blocks, own transfers, landed slots, result columns. -/
structure St where
  acc : Fin 3 × Fin 8 → Blk
  snd : TI → Snd
  rcv : TI → Bool
  out : Fin 3 → Bool

section State
variable (c : Dev nD)

def accAt (p : Fin 3 × Fin 8) : Blk → sProp 𝕄
  | .lent => iprop(emp)
  | .any => iprop(∃ X, accO c p.1 (xr c p.2) X)
  | .val s => accO c p.1 (xr c p.2) (stageV x w p.1 s c (xr c p.2))
def sndAt (q : TI) : Snd → sProp 𝕄
  | .idle => iprop(dutyTok ER (sndC c q) 0 0 ∗ dutyTok ER (rcvC (xr c (pm q.1 q.2)) q) 0 0 ∗ atPos ER (sndC c q) 0 ∅ 0
      ∗ slotAny (xr c (pm q.1 q.2)) q)
  | .flying => iprop(cred (tallyAt (sndC c q) () (NB q.1)) ∗ atPos ER (sndC c q) 0 ∅ 0)
  | .done => semVal (sndC c q) 0
def rcvAt (q : TI) : Bool → sProp 𝕄
  | false => iprop(atPos ER (rcvC c q) 0 ∅ 0 ∗ cred (tallyAt (rcvC c q) () (NB q.1)))
  | true => iprop(semVal (rcvC c q) 0 ∗ slotAny c q)
def outAt (g : Fin 3) : Bool → sProp 𝕄
  | false => iprop(∃ X, outO c g X)
  | true => outO c g (outG x w g c)

/-- What a state stands for on device `c`, the steps `l` still to come. -/
def Inv (σ : St) (l : List Step) : sProp 𝕄 :=
  iprop((bigSep Finset.univ fun p => accAt x w c p (σ.acc p)) ∗ (bigSep Finset.univ fun q => sndAt c q (σ.snd q))
    ∗ (bigSep Finset.univ fun q => rcvAt c q (σ.rcv q)) ∗ (bigSep Finset.univ fun g => outAt x w c g (σ.out g))
    ∗ owns (c : Thread nD τ) xM fullShare (x c) ∗ owns (c : Thread nD τ) bM fullShare (k0_pay1 (w c))
    ∗ ∃ Ws, owes (c : Thread nD τ) (dues c l) Ws)

end State

/-- The table of a step: the state before, the steps after. -/
def next (σ : St) : Step → List Step → Option St
  | .chunk μ, _ =>
    if σ.acc (0, μ) = .any ∧ σ.acc (1, μ) = .any ∧ σ.acc (2, μ) = .any then
      some { σ with acc := Function.update (Function.update (Function.update σ.acc (0, μ) (.val 1)) (1, μ) (.val 1)) (2, μ) (.val 1) }
    else none
  | .send g k, _ =>
    if σ.acc (g, sm g k) = .val (stg k) ∧ σ.snd (g, k) = .idle then
      some { σ with acc := Function.update σ.acc (g, sm g k) .lent, snd := Function.update σ.snd (g, k) .flying }
    else none
  | .recv g k, l =>
    if σ.acc (g, rm g k) = .val (stg k) ∧ σ.rcv (g, k) = false ∧ above (1 + (stg k).val) l = true ∧ k ≠ 6 then
      some { σ with acc := Function.update σ.acc (g, rm g k) (.val (stg k + 1)), rcv := Function.update σ.rcv (g, k) true }
    else none
  | .fin g, l =>
    if σ.acc (g, 0) = .val 3 ∧ σ.rcv (g, 6) = false ∧ above 4 l = true ∧ σ.out g = false then
      some { σ with rcv := Function.update σ.rcv (g, 6) true, out := Function.update σ.out g true }
    else none
  | .free g k, l =>
    if σ.acc (g, sm g k) = .lent ∧ σ.snd (g, k) = .flying then
      some { σ with acc := Function.update σ.acc (g, sm g k) .any, snd := Function.update σ.snd (g, k) .done }
    else none

def runSt (σ : St) : List Step → Option St
  | [] => some σ
  | s :: l => (next σ s l).bind fun σ' => runSt σ' l

/-- One member of a family taken, and put back changed. -/
theorem bigUpd {I A : Type} [Fintype I] [DecidableEq I] (f : I → A → sProp 𝕄) (σ : I → A) (i : I) (v : A) :
    (bigSep Finset.univ fun p => f p (σ p)) ⊢ iprop(f i (σ i) ∗ (f i v -∗ bigSep Finset.univ fun p => f p (Function.update σ i v p))) := by
  have h : (bigSep (Finset.univ.erase i) fun p => f p (σ p)) = bigSep (Finset.univ.erase i) fun p => f p (Function.update σ i v p) :=
    bigSep_congr fun p hp => by rw [Function.update_of_ne (Finset.ne_of_mem_erase hp)]
  rw [bigSep_univ_at (fun p => f p (σ p)) i, bigSep_univ_at (fun p => f p (Function.update σ i v p)) i, Function.update_self, h]
  iintro ⟨H1, H2⟩
  isplitl [H1]; · iexact H1
  iintro H
  isplitl [H] <;> iassumption

/-- Three members of a family taken, and put back changed. -/
theorem bigUpd3 {I A : Type} [Fintype I] [DecidableEq I] (f : I → A → sProp 𝕄) (σ : I → A) (i j k : I) (hij : j ≠ i) (hik : k ≠ i) (hjk : k ≠ j) (v : A) :
    (bigSep Finset.univ fun p => f p (σ p)) ⊢ iprop(f i (σ i) ∗ f j (σ j) ∗ f k (σ k) ∗ (f i v -∗ f j v -∗ f k v
      -∗ bigSep Finset.univ fun p => f p (Function.update (Function.update (Function.update σ i v) j v) k v p))) := by
  let τ := Function.update (Function.update (Function.update σ i v) j v) k v
  have hi : τ i = v := by
    show Function.update (Function.update (Function.update σ i v) j v) k v i = v
    rw [Function.update_of_ne hik.symm, Function.update_of_ne hij.symm, Function.update_self]
  have hj : τ j = v := by
    show Function.update (Function.update (Function.update σ i v) j v) k v j = v
    rw [Function.update_of_ne hjk.symm, Function.update_self]
  have hk : τ k = v := Function.update_self ..
  have h3 (ρ : I → A) : (bigSep Finset.univ fun p => f p (ρ p))
      = iprop(f i (ρ i) ∗ f j (ρ j) ∗ f k (ρ k) ∗ bigSep (((Finset.univ.erase i).erase j).erase k) fun p => f p (ρ p)) := by
    rw [bigSep_univ_at (fun p => f p (ρ p)) i, bigSep_erase (Φ := fun p => f p (ρ p)) (Finset.mem_erase.mpr ⟨hij, Finset.mem_univ j⟩),
      bigSep_erase (Φ := fun p => f p (ρ p)) (Finset.mem_erase.mpr ⟨hjk, Finset.mem_erase.mpr ⟨hik, Finset.mem_univ k⟩⟩)]
    rfl
  have h : (bigSep (((Finset.univ.erase i).erase j).erase k) fun p => f p (σ p)) = bigSep (((Finset.univ.erase i).erase j).erase k) fun p => f p (τ p) :=
    bigSep_congr fun p hp => by
      have h1 := Finset.ne_of_mem_erase hp
      have h2 := Finset.ne_of_mem_erase (Finset.mem_of_mem_erase hp)
      have h3 := Finset.ne_of_mem_erase (Finset.mem_of_mem_erase (Finset.mem_of_mem_erase hp))
      show f p (σ p) = f p (Function.update (Function.update (Function.update σ i v) j v) k v p)
      rw [Function.update_of_ne h1, Function.update_of_ne h2, Function.update_of_ne h3]
  show _ ⊢ iprop(_ ∗ _ ∗ _ ∗ (_ -∗ _ -∗ _ -∗ bigSep Finset.univ fun p => f p (τ p)))
  rw [h3 σ, h3 τ, hi, hj, hk, h]
  iintro ⟨H1, H2, H3, H4⟩
  isplitl [H1]; · iexact H1
  isplitl [H2]; · iexact H2
  isplitl [H3]; · iexact H3
  iintro G1 G2 G3
  isplitl [G1]; · iexact G1
  isplitl [G2]; · iexact G2
  isplitl [G3] <;> iassumption

/-! ## The steps -/

theorem of_ite {A : Type} {p : Prop} [Decidable p] {a b : A} (h : (if p then some a else none) = some b) : p ∧ a = b := by
  by_cases hp : p
  · rw [if_pos hp] at h; exact ⟨hp, Option.some.inj h⟩
  · rw [if_neg hp] at h; cases h

theorem stage_step (g : Fin 3) (i : Fin 7) (hi : i ≠ 6) (c ch : Dev nD) :
    addV g (stageV x w g (stg i) c ch) (stageV x w g (stg i) (xr c (pm g i)) ch) = stageV x w g (stg i + 1) c ch := by
  match i, hi with
  | 0, _ => rfl | 1, _ => rfl | 2, _ => rfl | 3, _ => rfl | 4, _ => rfl | 5, _ => rfl
  | 6, h => exact absurd rfl h

theorem accAt_any (c : Dev nD) (g : Fin 3) (μ : Fin 8) : accAt x w c (g, μ) .any = iprop(∃ X, accO c g (xr c μ) X) := rfl
theorem accAt_val (c : Dev nD) (g : Fin 3) (μ : Fin 8) (s : Fin 4) : accAt x w c (g, μ) (.val s) = accO c g (xr c μ) (stageV x w g s c (xr c μ)) := rfl
theorem accAt_lent (c : Dev nD) (p : Fin 3 × Fin 8) : accAt x w c p .lent = iprop(emp) := rfl
theorem outAt_false (c : Dev nD) (g : Fin 3) : outAt x w c g false = iprop(∃ X, outO c g X) := rfl
theorem outAt_true (c : Dev nD) (g : Fin 3) : outAt x w c g true = outO c g (outG x w g c) := rfl
theorem payOf_snd (c : Dev nD) (g : Fin 3) (i : Fin 7) : payOf x w c (some (some (false, (g, i)))) 0 = iprop(∃ X, accO c g (xr c (sm g i)) X) := rfl
theorem payOf_rcv (c : Dev nD) (g : Fin 3) (i : Fin 7) :
    payOf x w c (some (some (true, (g, i)))) 0 = slotO c g i (stageV x w g (stg i) (xr c (pm g i)) (xr c (rm g i))) := rfl

theorem stageV_one (g : Fin 3) (c ch : Dev nD) : stageV x w g 1 c ch = colsV g (prodV (xch (x c) ch) (k0_pay1 (w c))) := rfl

theorem sndAt_idle (c : Dev nD) (q : TI) : sndAt (F := F) c q .idle = iprop(dutyTok ER (sndC c q) 0 0 ∗ dutyTok ER (rcvC (xr c (pm q.1 q.2)) q) 0 0
    ∗ atPos ER (sndC c q) 0 ∅ 0 ∗ slotAny (xr c (pm q.1 q.2)) q) := rfl
theorem sndAt_flying (c : Dev nD) (q : TI) : sndAt (F := F) c q .flying = iprop(cred (tallyAt (sndC c q) () (NB q.1)) ∗ atPos ER (sndC c q) 0 ∅ 0) := rfl
theorem sndAt_done (c : Dev nD) (q : TI) : sndAt (F := F) c q .done = semVal (sndC c q) 0 := rfl
theorem rcvAt_false (c : Dev nD) (q : TI) : rcvAt (F := F) c q false = iprop(atPos ER (rcvC c q) 0 ∅ 0 ∗ cred (tallyAt (rcvC c q) () (NB q.1))) := rfl
theorem rcvAt_true (c : Dev nD) (q : TI) : rcvAt (F := F) c q true = iprop(semVal (rcvC c q) 0 ∗ slotAny c q) := rfl

theorem rm_six : ∀ g : Fin 3, rm g 6 = 0 := by decide

section Step
variable (c : Dev nD) (l : List Step) (k : P1 F)

theorem step_chunk (σ σ' : St) (μ : Fin 8) (Q : PUnit.{1} → sProp 𝕄) (h : next σ (.chunk μ) l = some σ') :
    iprop(Inv x w c σ (.chunk μ :: l) ∗ (Inv x w c σ' l -∗ WP c k Q)) ⊢ WP c (chunkC c μ k) Q := by
  obtain ⟨⟨h0, h1, h2⟩, rfl⟩ := of_ite h
  unfold Inv
  iintro ⟨⟨Ha, Hs, Hr, Ho, Hx, Hb, HO⟩, Hk⟩
  ihave Ha' := (bigUpd3 (accAt x w c) σ.acc (0, μ) (1, μ) (2, μ) (fun h => by cases h) (fun h => by cases h) (fun h => by cases h) (.val 1)) $$ Ha
  rw [h0, h1, h2]
  simp only [accAt_any, accAt_val, stageV_one]
  icases Ha' with ⟨⟨%X0, H0⟩, ⟨%X1, H1⟩, ⟨%X2, H2⟩, Ha⟩
  iapply (wp_chunk c μ (x c) (k0_pay1 (w c)) (fun | 0 => X0 | 1 => X1 | 2 => X2)) $$ [Hx Hb H0 H1 H2]
  · isplitl [Hx]; · iexact Hx
    isplitl [Hb]; · iexact Hb
    isplitl [H0]; · iexact H0
    isplitl [H1] <;> iassumption
  iintro Hx Hb H0 H1 H2
  iapply Hk
  isplitl [Ha H0 H1 H2]; · iapply Ha $$ H0 H1 H2
  isplitl [Hs]; · iexact Hs
  isplitl [Hr]; · iexact Hr
  isplitl [Ho]; · iexact Ho
  isplitl [Hx]; · iexact Hx
  isplitl [Hb]; · iexact Hb
  iexact HO

theorem step_send (σ σ' : St) (g : Fin 3) (i : Fin 7) (Q : PUnit.{1} → sProp 𝕄) (h : next σ (.send g i) l = some σ') :
    iprop(recs x w K ∗ Inv x w c σ (.send g i :: l) ∗ (Inv x w c σ' l -∗ WP c k Q)) ⊢ WP c (sendC c g i k) Q := by
  obtain ⟨⟨h0, h1⟩, rfl⟩ := of_ite h
  unfold Inv
  iintro ⟨#HR, ⟨Ha, Hs, Hr, Ho, Hx, Hb, %Ws, HO⟩, Hk⟩
  ihave Ha' := (bigUpd (accAt x w c) σ.acc (g, sm g i) .lent) $$ Ha
  ihave Hs' := (bigUpd (sndAt c) σ.snd (g, i) .flying) $$ Hs
  rw [h0, h1, accAt_val, accAt_lent, sndAt_idle, sndAt_flying]
  icases Ha' with ⟨H0, Ha⟩
  icases Hs' with ⟨⟨Ht1, Ht2, Hat, Hsl⟩, Hs⟩
  unfold sendC
  iapply (send_some x w K c (g, i) _ (devW_eq c (pm g i)) _ (offS_eq c (sm' g i)) _ (dues c l) Ws) $$ [H0 Hsl HO Ht1 Ht2]
  · isplitr; · iexact HR
    isplitl [H0]; · iexact H0
    isplitl [Hsl]; · iexact Hsl
    isplitl [HO]; · iexact HO
    isplitl [Ht1] <;> iassumption
  iintro Hc HO
  iapply Hk
  isplitl [Ha]; · iapply Ha; iempintro
  isplitl [Hs Hc Hat]
  · iapply Hs
    isplitl [Hc] <;> iassumption
  isplitl [Hr]; · iexact Hr
  isplitl [Ho]; · iexact Ho
  isplitl [Hx]; · iexact Hx
  isplitl [Hb]; · iexact Hb
  iexists Ws; iexact HO

theorem step_recv (σ σ' : St) (g : Fin 3) (i : Fin 7) (Q : PUnit.{1} → sProp 𝕄) (h : next σ (.recv g i) l = some σ') :
    iprop(recs x w K ∗ Inv x w c σ (.recv g i :: l) ∗ (Inv x w c σ' l -∗ WP c k Q)) ⊢ WP c (recvC c g i k) Q := by
  obtain ⟨⟨h0, h1, h2, h3⟩, rfl⟩ := of_ite h
  unfold Inv
  iintro ⟨#HR, ⟨Ha, Hs, Hr, Ho, Hx, Hb, %Ws, HO⟩, Hk⟩
  ihave Ha' := (bigUpd (accAt x w c) σ.acc (g, rm g i) (.val (stg i + 1))) $$ Ha
  ihave Hr' := (bigUpd (rcvAt c) σ.rcv (g, i) true) $$ Hr
  rw [h0, h1, accAt_val, accAt_val, rcvAt_false, rcvAt_true]
  icases Ha' with ⟨H0, Ha⟩
  icases Hr' with ⟨⟨Hat, Hc⟩, Hr⟩
  unfold recvC waitC
  iapply (wait_some x w K c true (g, i) (dues c l) Ws _ _ rfl (slot_credit g i)) $$ [HO Hat Hc]
  · isplitr; · iexact HR
    isplitl [Hc]; · iexact Hc
    isplitl [HO]; · iexact HO
    isplitr
    · iapply (mayWait_dues c (csem (some (true, (g, i)))) (1 + (stg i).val) (by rw [dec_csem]; rfl) l h2)
      iapply (recs_lev x w K); iexact HR
    iexact Hat
  iintro HO Hz Hp
  ihave Hp := (Entails.of_eq (payOf_rcv x w c g i)) $$ Hp
  iapply (add_tail c g i (stageV x w g (stg i) c (xr c (rm g i))) (stageV x w g (stg i) (xr c (pm g i)) (xr c (rm g i))) k Q) $$ [H0 Hp]
  · isplitl [H0] <;> iassumption
  iintro H0 Hp
  iapply Hk
  isplitl [Ha H0]
  · iapply Ha
    rw [← stage_step x w g i h3]; iexact H0
  isplitl [Hs]; · iexact Hs
  isplitl [Hr Hz Hp]
  · iapply Hr
    isplitl [Hz]; · iexact Hz
    unfold slotAny; iexists _; iexact Hp
  isplitl [Ho]; · iexact Ho
  isplitl [Hx]; · iexact Hx
  isplitl [Hb]; · iexact Hb
  iexact HO

theorem step_fin (σ σ' : St) (g : Fin 3) (Q : PUnit.{1} → sProp 𝕄) (h : next σ (.fin g) l = some σ') :
    iprop(recs x w K ∗ Inv x w c σ (.fin g :: l) ∗ (Inv x w c σ' l -∗ WP c k Q)) ⊢ WP c (finC c g k) Q := by
  obtain ⟨⟨h0, h1, h2, h3⟩, rfl⟩ := of_ite h
  unfold Inv
  iintro ⟨#HR, ⟨Ha, Hs, Hr, Ho, Hx, Hb, %Ws, HO⟩, Hk⟩
  have hA := bigUpd (accAt x w c) σ.acc (g, 0) (.val 3)
  rw [show Function.update σ.acc (g, 0) (.val 3) = σ.acc from by rw [← h0, Function.update_eq_self]] at hA
  ihave Ha' := hA $$ Ha
  ihave Hr' := (bigUpd (rcvAt c) σ.rcv (g, 6) true) $$ Hr
  ihave Ho' := (bigUpd (outAt x w c) σ.out g true) $$ Ho
  rw [h0, h1, h3, accAt_val, outAt_false, outAt_true, rcvAt_false, rcvAt_true]
  icases Ha' with ⟨H0, Ha⟩
  icases Hr' with ⟨⟨Hat, Hc⟩, Hr⟩
  icases Ho' with ⟨⟨%Y, Hout⟩, Ho⟩
  unfold finC waitC
  iapply (wait_some x w K c true (g, 6) (dues c l) Ws _ _ rfl (slot_credit g 6)) $$ [HO Hat Hc]
  · isplitr; · iexact HR
    isplitl [Hc]; · iexact Hc
    isplitl [HO]; · iexact HO
    isplitr
    · iapply (mayWait_dues c (csem (some (true, (g, 6)))) 4 (by rw [dec_csem]; rfl) l h2)
      iapply (recs_lev x w K); iexact HR
    iexact Hat
  iintro HO Hz Hp
  ihave Hp := (Entails.of_eq (payOf_rcv x w c g 6)) $$ Hp
  iapply (out_tail c g (stageV x w g 3 c (xr c 0)) (stageV x w g (stg 6) (xr c (pm g 6)) (xr c (rm g 6))) Y k Q) $$ [H0 Hp Hout]
  · isplitl [H0]; · iexact H0
    isplitl [Hp] <;> iassumption
  iintro H0 Hp Hout
  iapply Hk
  isplitl [Ha H0]; · iapply Ha $$ H0
  isplitl [Hs]; · iexact Hs
  isplitl [Hr Hz Hp]
  · iapply Hr
    isplitl [Hz]; · iexact Hz
    unfold slotAny; iexists _; iexact Hp
  isplitl [Ho Hout]
  · iapply Ho
    rw [rm_six, xr_zero]; iexact Hout
  isplitl [Hx]; · iexact Hx
  isplitl [Hb]; · iexact Hb
  iexact HO

theorem step_free (σ σ' : St) (g : Fin 3) (i : Fin 7) (Q : PUnit.{1} → sProp 𝕄) (h : next σ (.free g i) l = some σ') :
    iprop(recs x w K ∗ Inv x w c σ (.free g i :: l) ∗ (Inv x w c σ' l -∗ WP c k Q)) ⊢ WP c (freeC c g i k) Q := by
  obtain ⟨⟨h0, h1⟩, rfl⟩ := of_ite h
  unfold Inv
  iintro ⟨#HR, ⟨Ha, Hs, Hr, Ho, Hx, Hb, %Ws, HO⟩, Hk⟩
  ihave Ha' := (bigUpd (accAt x w c) σ.acc (g, sm g i) .any) $$ Ha
  ihave Hs' := (bigUpd (sndAt c) σ.snd (g, i) .done) $$ Hs
  rw [h1, accAt_any, sndAt_flying, sndAt_done]
  icases Ha' with ⟨-, Ha⟩
  icases Hs' with ⟨⟨Hc, Hat⟩, Hs⟩
  unfold freeC
  iapply (wait_some x w K c false (g, i) (dues c l) Ws _ _ rfl (src_credit g c (sm' g i))) $$ [HO Hat Hc]
  · isplitr; · iexact HR
    isplitl [Hc]; · iexact Hc
    isplitl [HO]; · iexact HO
    isplitr
    · iapply (mayWait_dues c (csem (some (false, (g, i)))) 0 (by rw [dec_csem]; rfl) l (above_zero l))
      iapply (recs_lev x w K); iexact HR
    iexact Hat
  iintro HO Hz Hp
  ihave Hp := (Entails.of_eq (payOf_snd x w c g i)) $$ Hp
  iapply Hk
  isplitl [Ha Hp]; · iapply Ha $$ Hp
  isplitl [Hs Hz]; · iapply Hs $$ Hz
  isplitl [Hr]; · iexact Hr
  isplitl [Ho]; · iexact Ho
  isplitl [Hx]; · iexact Hx
  isplitl [Hb]; · iexact Hb
  iexact HO

/-- One step: from what a state stands for to what the next stands for. -/
theorem wp_step (s : Step) (σ σ' : St) (Q : PUnit.{1} → sProp 𝕄) (h : next σ s l = some σ') :
    iprop(recs x w K ∗ Inv x w c σ (s :: l) ∗ (Inv x w c σ' l -∗ WP c k Q)) ⊢ WP c (stepC c s k) Q := by
  match s, h with
  | .chunk μ, h =>
    iintro ⟨-, H⟩
    iapply (step_chunk x w c l k σ σ' μ Q h) $$ H
  | .send g i, h => exact step_send x w K c l k σ σ' g i Q h
  | .recv g i, h => exact step_recv x w K c l k σ σ' g i Q h
  | .fin g, h => exact step_fin x w K c l k σ σ' g Q h
  | .free g i, h => exact step_free x w K c l k σ σ' g i Q h

end Step

/-- A list of steps: from what a state stands for to what the state after stands for, nothing owed. -/
theorem wp_run (c : Dev nD) (Q : PUnit.{1} → sProp 𝕄) : ∀ (l : List Step) (σ σ' : St), runSt σ l = some σ' →
    iprop(recs x w K ∗ Inv x w c σ l ∗ (Inv x w c σ' [] -∗ Q ⟨⟩)) ⊢ WP c (runC c l) Q
  | [], σ, σ', h => by
    cases h
    show _ ⊢ WP c (.ret ⟨⟩) Q
    unfold WP
    rw [wp_ret]
    iintro ⟨-, H, Hk⟩
    imodintro
    iapply Hk $$ H
  | s :: l, σ, σ', h => by
    obtain ⟨σ₁, h1, h2⟩ := Option.bind_eq_some_iff.mp h
    show _ ⊢ WP c (stepC c s (runC c l)) Q
    iintro ⟨#HR, H, Hk⟩
    iapply (wp_step x w K c l (runC c l) s σ σ₁ Q h1)
    isplitr; · iexact HR
    isplitl [H]; · iexact H
    iintro H
    iapply (wp_run c Q l σ₁ σ' h2)
    isplitr; · iexact HR
    isplitl [H] <;> iassumption

/-! ## The kernel's run of states -/

/-- After the barrier: every block of any contents, no transfer started, nothing landed, no result. -/
def σ₀ : St := ⟨fun _ => .any, fun _ => .idle, fun _ => false, fun _ => false⟩

/-- The end: every block back, every transfer done, everything landed, the whole result there. -/
def atEnd (σ : St) : Prop := (∀ p, σ.acc p ≠ .lent) ∧ (∀ q, σ.snd q = .done) ∧ (∀ q, σ.rcv q = true) ∧ ∀ g, σ.out g = true

instance (σ : St) : Decidable (atEnd σ) := by unfold atEnd; infer_instance

theorem run_ends : ∃ σ, runSt σ₀ steps = some σ ∧ atEnd σ := by
  have h : (match runSt σ₀ steps with | some σ => decide (atEnd σ) | none => false) = true := by decide +kernel
  match hr : runSt σ₀ steps with
  | some σ => rw [hr] at h; exact ⟨σ, rfl, of_decide_eq_true h⟩
  | none => rw [hr] at h; cases h

end Cert.RS

end
-- ==== Proof.Body.lean ====
/-
# The kernel's body on one device

`wp_body`: from the device's memory, its share of the protocol (`lin`) and what it owes at launch, the body ends owing
nothing, with the device's result in `out`, its memory back and every semaphore of it at zero.
-/
module

public import proofs.«01_k».proof.Proof.Steps

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S4096x512 .bf16) (w : Dev nD → FVec F S512x2048 .bf16) (K : Dev nD × CI → ℕ)

/-- The result of device `c`. -/
def outV (c : Dev nD) : FVec F S512x2048 .f32 := ofCols fun g => outG x w g c

/-! ## Slots handed over at the barrier -/

theorem pm_cases : ∀ q : TI, pm q.1 q.2 = 1 ∨ pm q.1 q.2 = 3 ∨ pm q.1 q.2 = 4 := by decide

/-- What three partners' units hand over, transfer by transfer. -/
theorem three (Φ : Fin 8 → TI → sProp 𝕄) :
    (bigSep Finset.univ fun q : TI => Φ (pm q.1 q.2) q)
      = iprop((bigSep Finset.univ fun q : TI => if pm q.1 q.2 = 1 then Φ 1 q else iprop(emp))
        ∗ (bigSep Finset.univ fun q : TI => if pm q.1 q.2 = 3 then Φ 3 q else iprop(emp))
        ∗ (bigSep Finset.univ fun q : TI => if pm q.1 q.2 = 4 then Φ 4 q else iprop(emp))) := by
  rw [← bigSep_sep', ← bigSep_sep']
  refine bigSep_congr fun q _ => ?_
  have he (P : sProp 𝕄) : (iprop(emp ∗ P) : sProp 𝕄) = P := BI.equiv_iff.mp emp_sep
  have he' (P : sProp 𝕄) : (iprop(P ∗ emp) : sProp 𝕄) = P := BI.equiv_iff.mp sep_emp
  rcases pm_cases q with h | h | h <;> rw [h]
  · rw [if_pos rfl, if_neg (by decide), if_neg (by decide), he', he']
  · rw [if_pos rfl, if_neg (by decide), if_neg (by decide), he', he]
  · rw [if_pos rfl, if_neg (by decide), if_neg (by decide), he, he]

/-- A device's slots, by the partner each is handed to. -/
theorem slots_deal (c : Dev nD) : (bigSep Finset.univ fun q : TI => slotAny (F := F) c q)
    = iprop(slotsOf c 1 ∗ slotsOf c 3 ∗ slotsOf c 4) := three fun _ q => slotAny c q
/-- The slots the three partners hand over are those the device's transfers go to. -/
theorem slots_got (c : Dev nD) : (iprop(barPay c 0 ∗ barPay c 1 ∗ barPay c 2) : sProp 𝕄)
    = bigSep Finset.univ fun q : TI => slotAny (F := F) (xr c (pm q.1 q.2)) q := (three fun μ q => slotAny (xr c μ) q).symm

/-! ## The barrier -/

/-- A unit signalled to the partner of a mask, with the slots handed to it. -/
theorem wp_sig (c : Dev nD) (i : Fin 3) (O : CellTallies nD τ sig Unit) (Ws : Waits sig Unit) (k : P1 F) (Q : PUnit.{1} → sProp 𝕄) :
    iprop(recs x w K ∗ owes (c : Thread nD τ) (O + tallyAt (barC' (xr c (bm i))) () 1) Ws ∗ dutyTok ER (barC' (xr c (bm i))) 0 i ∗ slotsOf c (bm i))
      ⊢ iprop((owes (c : Thread nD τ) O Ws -∗ WP c k Q) -∗ WP c (sigC c (bm i) k) Q) := by
  unfold sigC
  simp only [semSignalWord, Prog.lift, Prog.bind_op, Prog.bind_ret, Prog.pure_eq_ret]
  rw [devW_eq]
  iintro ⟨#HR, HO, Ht, Hs⟩ Hk
  ihave Hi := (recs_at x w K (xr c (bm i)) none) $$ HR
  icases Hi with ⟨#Hinv, #Hr⟩
  iapply (Rounds.wp_signal 𝒱₀ ER (Rd x w) (c : Thread nD τ) none (dst := (xr c (bm i) : Thread nD τ)) (κ := K (xr c (bm i), none))
      (d := i) (by rw [show (((xr c (bm i) : Dev nD) : Thread nD τ), SemLoc.reg barS) = barC' (xr c (bm i)) from rfl, duties_eq]; exact Finset.mem_univ _)
      ((amount_eq x w (xr c (bm i)) none 0 i).trans (by decide)) () O rfl)
    $$ [HO Ht Hs]
  · isplitr; · iexact Hinv
    isplitl [HO]; · iexact HO
    isplitl [Ht]; · iexact Ht
    isplitl [Hs]
    · rw [show (((xr c (bm i) : Dev nD) : Thread nD τ), SemLoc.reg barS) = barC' (xr c (bm i)) from rfl, payload_eq]
      rw [show payOf x w (xr c (bm i)) (some none) i = slotsOf (xr (xr c (bm i)) (bm i)) (bm i) from rfl, xr_xr]
      iexact Hs
    iexact Hr
  iexact Hk

theorem mayWait_bar (c : Dev nD) : (levAts L lv : sProp 𝕄) ⊢ MayWait (c : Thread nD τ) (csem none) () (dues c steps) :=
  mayWait_dues c (csem none) 1 (by rw [dec_csem]; rfl) steps (by decide +kernel)

/-- The wait for the three partners' units: the slots the device's transfers go to. -/
theorem wp_bar (c : Dev nD) (Ws : Waits sig Unit) (k : P1 F) (Q : PUnit.{1} → sProp 𝕄) :
    iprop(recs x w K ∗ cred (tallyAt (barC' c) () 3) ∗ owes (c : Thread nD τ) (dues c steps) Ws ∗ atPos ER (barC' c) 0 ∅ 0)
      ⊢ iprop(((∃ Ws', owes (c : Thread nD τ) (dues c steps) Ws') -∗ semVal (barC' c) 0
          -∗ (bigSep Finset.univ fun q : TI => slotAny (F := F) (xr c (pm q.1 q.2)) q) -∗ WP c k Q) -∗ WP c (barC k) Q) := by
  unfold barC
  simp only [semWaitWord, Prog.lift, Prog.bind_op, Prog.bind_ret, Prog.pure_eq_ret]
  iintro ⟨#HR, Hc, HO, Hat⟩ Hk
  ihave Hi := (recs_at x w K c none) $$ HR
  icases Hi with ⟨#Hinv, -⟩
  iapply (Rounds.wp_wait_rest_token 𝒱₀ ER (Rd x w) (c : Thread nD τ) none (κ := K (c, none))
      (wpE_semWait_eq 𝒱₀ (c : Thread nD τ) none Set.univ) (Set.mem_univ _) () (O := dues c steps) (W := Ws) (R := 0) (m := 0) (T := ∅)
      (by rw [Nat.zero_add]; exact (expect_bar x w c).symm ▸ (by decide))) $$ [Hc HO Hat]
  · isplitr; · iexact Hinv
    isplitl [Hc]; · iexact Hc
    isplitl [HO]; · iexact HO
    isplitr; · iapply (mayWait_bar c); iapply (recs_lev x w K); iexact HR
    iexact Hat
  iintro ⟨HO, Hat, -, Hpay⟩
  ihave Hp := (Entails.of_eq ((rest_bar x w c).trans (slots_got c))) $$ Hpay
  imod (Rounds.cell_close ER (Rd x w) (Set.mem_univ (K (c, none))) (fun h => h) (R := 0 + 1) (duties_later x w (barC' c))) $$ [Hat] with Hz
  · isplitr; · iexact Hinv
    iexact Hat
  iapply Hk $$ [HO] Hz Hp
  iexists _; iexact HO

/-! ## The body -/

/-- A device's share of the protocol: its positions, the tokens of the duties it pays, its credits. -/
def sndLin (c : Dev nD) (q : TI) : sProp 𝕄 :=
  iprop(dutyTok ER (sndC c q) 0 0 ∗ dutyTok ER (rcvC (xr c (pm q.1 q.2)) q) 0 0 ∗ atPos ER (sndC c q) 0 ∅ 0)
def lin (c : Dev nD) : sProp 𝕄 :=
  iprop((dutyTok ER (barC' (xr c 1)) 0 0 ∗ dutyTok ER (barC' (xr c 3)) 0 1 ∗ dutyTok ER (barC' (xr c 4)) 0 2)
    ∗ (atPos ER (barC' c) 0 ∅ 0 ∗ cred (tallyAt (barC' c) () 3))
    ∗ (bigSep Finset.univ fun q : TI => sndLin c q) ∗ bigSep Finset.univ fun q : TI => rcvAt c q false)

/-- The device's scratch memory at any contents. -/
def scr (c : Dev nD) : sProp 𝕄 :=
  iprop((bigSep Finset.univ fun g : Fin 3 => iprop(∃ X, owns (c : Thread nD τ) (accM g) fullShare X))
    ∗ (bigSep Finset.univ fun g : Fin 3 => iprop(∃ X, owns (c : Thread nD τ) (rcvM g) fullShare X))
    ∗ ∃ X, owns (c : Thread nD τ) bM fullShare X)

/-- The device's semaphores at zero. -/
def zeros (c : Dev nD) : sProp 𝕄 :=
  iprop(semVal (barC' c) 0 ∗ (bigSep Finset.univ fun q : TI => semVal (sndC c q) 0) ∗ bigSep Finset.univ fun q : TI => semVal (rcvC c q) 0)

def bodyPost (c : Dev nD) : sProp 𝕄 :=
  iprop(zeros c ∗ scr c ∗ owns (c : Thread nD τ) xM fullShare (x c) ∗ owns (c : Thread nD τ) wM fullShare (w c)
    ∗ owns (c : Thread nD τ) oM fullShare (outV x w c) ∗ ∃ Ws, owes (c : Thread nD τ) 0 Ws)

/-- What the run of states ends in, as memory and counters. -/
theorem end_exit (c : Dev nD) (σ : St) (h : atEnd σ) :
    iprop(semVal (barC' c) 0 ∗ Inv x w c σ [] ∗ owns (c : Thread nD τ) wM fullShare (w c)) ⊢ bodyPost x w c := by
  obtain ⟨h0, h1, h2, h3⟩ := h
  have ha : (bigSep Finset.univ fun p => accAt x w c p (σ.acc p)) ⊢ bigSep Finset.univ fun g : Fin 3 => iprop(∃ X, owns (c : Thread nD τ) (accM g) fullShare X) := by
    have h : (bigSep Finset.univ fun p => accAt x w c p (σ.acc p)) ⊢ bigSep Finset.univ fun p : Fin 3 × Fin 8 => iprop(∃ X, accO c p.1 (xr c p.2) X) :=
      bigMono fun p _ => by
        match hp : σ.acc p with
        | .lent => exact absurd hp (h0 p)
        | .any => exact BI.Entails.refl _
        | .val s => unfold accAt; iintro H; iexists _; iexact H
    rw [bigSep_univ_prod (fun p : Fin 3 × Fin 8 => iprop(∃ X, accO c p.1 (xr c p.2) X))] at h
    exact h.trans (bigMono fun g _ => acc_join c g)
  have hs : (bigSep Finset.univ fun q => sndAt (F := F) c q (σ.snd q)) = bigSep Finset.univ fun q : TI => semVal (sndC c q) 0 :=
    bigSep_congr fun q _ => by rw [h1 q]; rfl
  have hr : (bigSep Finset.univ fun q => rcvAt (F := F) c q (σ.rcv q))
      ⊢ iprop((bigSep Finset.univ fun q : TI => semVal (rcvC c q) 0) ∗ bigSep Finset.univ fun g : Fin 3 => iprop(∃ X, owns (c : Thread nD τ) (rcvM g) fullShare X)) := by
    rw [bigSep_congr fun q _ => show rcvAt (F := F) c q (σ.rcv q) = iprop(semVal (rcvC c q) 0 ∗ slotAny c q) by rw [h2 q]; rfl, bigSep_sep',
      bigSep_univ_prod (fun q : TI => slotAny (F := F) c q)]
    exact sep_mono_right (bigMono fun g _ => slots_join c g)
  have ho : (bigSep Finset.univ fun g => outAt x w c g (σ.out g)) ⊢ owns (c : Thread nD τ) oM fullShare (outV x w c) := by
    rw [bigSep_congr fun g _ => show outAt x w c g (σ.out g) = outO c g (outG x w g c) by rw [h3 g]; rfl]
    exact out_join c fun g => outG x w g c
  unfold Inv bodyPost zeros scr
  rw [hs]
  iintro ⟨Hz, ⟨Ha, Hs, Hr, Ho, Hx, Hb, HO⟩, Hw⟩
  ihave Ha := ha $$ Ha
  ihave Hr := hr $$ Hr
  ihave Ho := ho $$ Ho
  icases Hr with ⟨Hv, Hr⟩
  isplitl [Hz Hs Hv]
  · isplitl [Hz]; · iexact Hz
    isplitl [Hs] <;> iassumption
  isplitl [Ha Hr Hb]
  · isplitl [Ha]; · iexact Ha
    isplitl [Hr]; · iexact Hr
    iexists _; iexact Hb
  isplitl [Hx]; · iexact Hx
  isplitl [Hw]; · iexact Hw
  isplitl [Ho]; · iexact Ho
  iexact HO

/-- The body, from launch to the end. -/
theorem wp_body (c : Dev nD) (Ws : Waits sig Unit) (Q : PUnit.{1} → sProp 𝕄) :
    iprop(recs x w K ∗ lin c ∗ scr c ∗ owns (c : Thread nD τ) xM fullShare (x c) ∗ owns (c : Thread nD τ) wM fullShare (w c)
        ∗ (∃ X, owns (c : Thread nD τ) oM fullShare X) ∗ owes (c : Thread nD τ) (O₀ c) Ws ∗ (bodyPost x w c -∗ Q ⟨⟩))
      ⊢ WP c bodyC Q := by
  obtain ⟨σ, hrun, hend⟩ := run_ends
  unfold bodyC lin scr
  simp only [WP, wp_deviceId]
  iintro ⟨#HR, ⟨⟨Ht0, Ht1, Ht2⟩, ⟨HatB, HcB⟩, Hsl, Hrl⟩, ⟨Hacc, Hrcv, ⟨%B, Hb⟩⟩, Hx, Hw, Hout, HO, Hk⟩
  iapply (wp_start c (w c) B) $$ [Hw Hb]
  · isplitl [Hw] <;> iassumption
  iintro Hw Hb
  ihave Hslots := (show (bigSep Finset.univ fun g : Fin 3 => iprop(∃ X, owns (c : Thread nD τ) (rcvM g) fullShare X)) ⊢
      iprop(slotsOf (F := F) c (bm 0) ∗ slotsOf c (bm 1) ∗ slotsOf c (bm 2)) from
    (bigMono fun g _ => slots_split c g).trans (Entails.of_eq ((bigSep_univ_prod (fun q : TI => slotAny (F := F) c q)).symm.trans (slots_deal c)))) $$ Hrcv
  icases Hslots with ⟨Hs0, Hs1, Hs2⟩
  iapply (wp_sig x w K c 0 (O₁ c) Ws) $$ [HO Ht0 Hs0]
  · isplitr; · iexact HR
    isplitl [HO]; · iexact HO
    isplitl [Ht0]; · iexact Ht0
    iexact Hs0
  iintro HO
  iapply (wp_sig x w K c 1 (O₂ c) Ws) $$ [HO Ht1 Hs1]
  · isplitr; · iexact HR
    isplitl [HO]; · iexact HO
    isplitl [Ht1]; · iexact Ht1
    iexact Hs1
  iintro HO
  iapply (wp_sig x w K c 2 (dues c steps) Ws) $$ [HO Ht2 Hs2]
  · isplitr; · iexact HR
    isplitl [HO]; · iexact HO
    isplitl [Ht2]; · iexact Ht2
    iexact Hs2
  iintro HO
  iapply (wp_bar x w K c Ws) $$ [HcB HO HatB]
  · isplitr; · iexact HR
    isplitl [HcB]; · iexact HcB
    isplitl [HO] <;> iassumption
  iintro HO HzB Hgot
  iapply (wp_run x w K c Q steps σ₀ σ hrun)
  isplitr; · iexact HR
  isplitr [Hk HzB Hw]
  · unfold Inv
    isplitl [Hacc]
    · iapply (show (bigSep Finset.univ fun g : Fin 3 => iprop(∃ X, owns (c : Thread nD τ) (accM g) fullShare X)) ⊢
        bigSep Finset.univ fun p : Fin 3 × Fin 8 => accAt x w c p (σ₀.acc p) from
        (bigMono fun g _ => acc_split c g).trans (Entails.of_eq
          (bigSep_univ_prod (fun p : Fin 3 × Fin 8 => iprop(∃ X, accO (F := F) c p.1 (xr c p.2) X))).symm)) $$ Hacc
    isplitl [Hsl Hgot]
    · iapply (show iprop((bigSep Finset.univ fun q : TI => sndLin (F := F) c q) ∗ bigSep Finset.univ fun q : TI => slotAny (F := F) (xr c (pm q.1 q.2)) q)
          ⊢ bigSep Finset.univ fun q => sndAt c q (σ₀.snd q) from by
        rw [← bigSep_sep']
        refine bigMono fun q _ => ?_
        unfold sndLin
        show _ ⊢ sndAt c q .idle
        rw [sndAt_idle]
        iintro ⟨⟨H1, H2, H3⟩, H4⟩
        isplitl [H1]; · iexact H1
        isplitl [H2]; · iexact H2
        isplitl [H3] <;> iassumption)
      isplitl [Hsl] <;> iassumption
    isplitl [Hrl]; · iexact Hrl
    isplitl [Hout]; · iapply (out_split c) $$ Hout
    isplitl [Hx]; · iexact Hx
    isplitl [Hb]; · iexact Hb
    iexact HO
  iintro H
  iapply Hk
  iapply (end_exit x w c σ hend)
  isplitl [HzB]; · iexact HzB
  isplitl [H] <;> iassumption

end Cert.RS

end
-- ==== Proof.Ghost.lean ====
/-
# What the launch gives every device

The launch makes the cells' ghost state, every duty's token among it. Each token goes to the device that pays the duty
(`toks_around`); the credits a device waits with are what the other devices owe it (`creds`); from both a device's share
of the protocol is put together (`lin_intro`).
-/
module

public import proofs.«01_k».proof.Proof.Body

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → FVec F S4096x512 .bf16) (w : Dev nD → FVec F S512x2048 .bf16)

/-! ## Splitting along the cells of a device -/

theorem opt_split {A : Type} [Fintype A] [DecidableEq A] (Φ : Option A → sProp 𝕄) :
    bigSep Finset.univ Φ = iprop(Φ none ∗ bigSep Finset.univ fun a => Φ (some a)) := by
  rw [bigSep_univ_at Φ none, show (Finset.univ.erase none : Finset (Option A)) = Finset.univ.map Function.Embedding.some from by
    ext o; cases o <;> simp, bigSep_map]
  rfl
theorem bool_split {A : Type} [Fintype A] [DecidableEq A] (Φ : Bool × A → sProp 𝕄) :
    bigSep Finset.univ Φ = iprop((bigSep Finset.univ fun a => Φ (false, a)) ∗ bigSep Finset.univ fun a => Φ (true, a)) := by
  rw [bigSep_univ_prod]
  exact bigSep_univ_eq_bigSepL [false, true] (by decide) (by decide) _
theorem ci_split (Φ : CI → sProp 𝕄) : bigSep Finset.univ Φ
    = iprop(Φ none ∗ (bigSep Finset.univ fun q : TI => Φ (some (false, q))) ∗ bigSep Finset.univ fun q : TI => Φ (some (true, q))) := by
  rw [opt_split, bool_split]

/-! ## The launch element -/

def ringCells : Finset (GSem nD τ sig) := Finset.univ.map ⟨fun p : Dev nD × CI => cell p.1 p.2, cell_injective⟩

/-- A device's duties: its barrier's three, and one for each of its other cells. -/
abbrev DI : Type := Fin 3 ⊕ (Bool × TI)
def tokOf : Dev nD × DI → GSem nD τ sig × ℕ × Fin 3
  | (c, .inl i) => (barC' c, 0, i) | (c, .inr b) => (cell c (some b), 0, 0)
theorem cell_eq {c c' : Dev nD} {i i' : CI} (h : cell c i = cell c' i') : (c, i) = (c', i') :=
  cell_injective (a₁ := (c, i)) (a₂ := (c', i')) h
theorem tokOf_injective : Function.Injective tokOf := by
  intro a b h
  match a, b, h with
  | (c, .inl i), (c', .inl i'), h =>
    have h1 := cell_eq (congrArg Prod.fst h)
    have h2 : i = i' := congrArg (fun t => t.2.2) h
    rw [(Prod.mk.inj h1).1, h2]
  | (c, .inl i), (c', .inr b), h =>
    have h1 := cell_eq (congrArg Prod.fst h)
    exact absurd (Prod.mk.inj h1).2 (by intro h; cases h)
  | (c, .inr b), (c', .inl i), h =>
    have h1 := cell_eq (congrArg Prod.fst h)
    exact absurd (Prod.mk.inj h1).2 (by intro h; cases h)
  | (c, .inr b), (c', .inr b'), h =>
    have h1 := cell_eq (congrArg Prod.fst h)
    rw [(Prod.mk.inj h1).1, Option.some.inj (Prod.mk.inj h1).2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of the duties at a device's own cells. -/
def toks (c : Dev nD) : sProp 𝕄 :=
  iprop((bigSep Finset.univ fun i : Fin 3 => dutyTok ER (barC' c) 0 i) ∗ (bigSep Finset.univ fun q : TI => dutyTok ER (sndC c q) 0 0)
    ∗ bigSep Finset.univ fun q : TI => dutyTok ER (rcvC c q) 0 0)
/-- The tokens of the duties a device pays. -/
def payToks (c : Dev nD) : sProp 𝕄 :=
  iprop((bigSep Finset.univ fun i : Fin 3 => dutyTok ER (barC' (xr c (bm i))) 0 i) ∗ (bigSep Finset.univ fun q : TI => dutyTok ER (sndC c q) 0 0)
    ∗ bigSep Finset.univ fun q : TI => dutyTok ER (rcvC (xr c (pm q.1 q.2)) q) 0 0)

/-- What the launch element deals a device. -/
def G (c : Dev nD) : sProp 𝕄 :=
  iprop((bigSep Finset.univ fun i : CI => roundState ER (Rd x w) (cell c i) 0)
    ∗ (bigSep Finset.univ fun i : CI => atPos ER (cell c i) 0 ∅ 0) ∗ (bigSep Finset.univ fun i : CI => reached ER (cell c i) 0) ∗ toks c)

theorem fund_ring : BI.own (ER (initOf ringCells ringToks)) ⊢ (|==> bigSep Finset.univ (G x w) : sProp 𝕄) := by
  have hX (Φ : GSem nD τ sig → sProp 𝕄) : bigSep ringCells Φ = bigSep Finset.univ fun c : Dev nD => bigSep Finset.univ fun i : CI => Φ (cell c i) := by
    unfold ringCells; rw [bigSep_map, bigSep_univ_prod]; rfl
  have hT : bigSep ringToks (fun t => (dutyTok ER t.1 t.2.1 t.2.2 : sProp 𝕄)) = bigSep Finset.univ fun c : Dev nD => toks c := by
    unfold ringToks; rw [bigSep_map, bigSep_univ_prod]
    refine bigSep_congr fun c _ => ?_
    rw [BI.bigSep_univ_sum, bool_split]; rfl
  iintro HX
  imod (Rounds.fund ER (Rd x w) ringCells ringToks) $$ HX with ⟨Hst, Hr, Hat, Htok⟩
  imodintro
  ihave Hst' := (Entails.of_eq (hX fun g => roundState ER (Rd x w) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores' counters -/

theorem ownSemFacts : Pipeline.OwnSemFacts cfg0.spec osem := by decide +kernel

theorem ownSems0_split (c : Dev nD) : (Pipeline.ownSems0 (Ix := Unit) (Name := ℕ) (U := UU) (Lvl := ℕ) (Val := Elt F) (τ := τ) osem c : sProp 𝕄)
    = iprop((bigSep Finset.univ fun q : TI => semVal (sndC c q) 0) ∗ bigSep Finset.univ fun q : TI => semVal (rcvC c q) 0) := by
  unfold Pipeline.ownSems0; rw [bool_split]
theorem unscopedSems0_bar (c : Dev nD) : (unscopedSems0 c : sProp 𝕄) = semVal (barC' c) 0 := by
  unfold unscopedSems0; rw [bigSep_eq_bigSepL_of_eq [SemLoc.reg barS] (by decide +kernel) (by decide)]; rfl

theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [ownSems0_split, unscopedSems0_bar, ci_split]
  iintro ⟨⟨HS, HV⟩, HB⟩
  isplitl [HB]; · iexact HB
  isplitl [HS] <;> iassumption

/-! ## The cells' invariants -/

theorem core_alloc (c : Dev nD) :
    iprop(Pipeline.ownSems0 (Ix := Unit) (Name := ℕ) (U := UU) (Lvl := ℕ) (Val := Elt F) (τ := τ) osem c ∗ unscopedSems0 c ∗ G x w c)
      ⊢ |={Set.univ}=> iprop((bigSep Finset.univ fun i => iprop(∃ κ : ℕ, cellInv ER (Rd x w) κ (cell c i)))
          ∗ (bigSep Finset.univ fun i : CI => atPos ER (cell c i) 0 ∅ 0) ∗ (bigSep Finset.univ fun i : CI => reached ER (cell c i) 0) ∗ toks c) := by
  unfold G
  iintro ⟨Hos, Hus, Hst, Hat, Hr, Htok⟩
  ihave Hv := (sems0_cells (F := F) c) $$ [Hos Hus]
  · isplitl [Hos] <;> iassumption
  imod (show iprop((bigSep Finset.univ fun i : CI => semVal (cell c i) 0) ∗ bigSep Finset.univ fun i : CI => roundState ER (Rd x w) (cell c i) 0)
      ⊢ (|={Set.univ}=> bigSep Finset.univ fun i => iprop(∃ κ : ℕ, cellInv ER (Rd x w) κ (cell c i)) : sProp 𝕄) from by
        rw [← bigSep_sep']
        exact (bigSep_mono fun i _ => (Rounds.body_intro ER (Rd x w) (cell c i)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The cells' records without the levels. -/
def cellRecs (K : Dev nD × CI → ℕ) : sProp 𝕄 :=
  bigSep Finset.univ fun p : Dev nD × CI => iprop(cellInv ER (Rd x w) (K p) (cell p.1 p.2) ∗ reached ER (cell p.1 p.2) 0)
instance cellRecs_persistent (K : Dev nD × CI → ℕ) : BI.Persistent (cellRecs x w K) := by unfold cellRecs; infer_instance

/-- What the global step makes of every device's share: the records, the device's positions, the tokens it pays with. -/
def G' (c : Dev nD) : sProp 𝕄 :=
  iprop(∃ K, cellRecs x w K ∗ (bigSep Finset.univ fun i : CI => atPos ER (cell c i) 0 ∅ 0) ∗ payToks c)

/-- Reindexing a conjunction over devices and `A` by the partner of mask `f a`. -/
theorem around {A : Type} [Fintype A] [DecidableEq A] (f : A → Fin 8) (Φ : Dev nD → A → sProp 𝕄) :
    (bigSep Finset.univ fun c : Dev nD => bigSep Finset.univ fun a => Φ c a)
      = bigSep Finset.univ fun c : Dev nD => bigSep Finset.univ fun a => Φ (xr c (f a)) a := by
  have hi : Function.Involutive fun p : Dev nD × A => (xr p.1 (f p.2), p.2) := fun p => by
    show (xr (xr p.1 (f p.2)) (f p.2), p.2) = p
    rw [xr_xr]
  rw [← bigSep_univ_prod (fun p : Dev nD × A => Φ p.1 p.2), bigSep_univ_equiv hi.toPerm, bigSep_univ_prod]
  rfl

/-- Every token goes to the device that pays its duty. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', around bm fun c i => (dutyTok ER (barC' c) 0 i : sProp 𝕄),
    around (fun q : TI => pm q.1 q.2) fun c q => (dutyTok ER (rcvC c q) 0 0 : sProp 𝕄)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd x w) κ (cell c i)))
          ∗ (bigSep Finset.univ fun i : CI => atPos ER (cell c i) 0 ∅ 0) ∗ (bigSep Finset.univ fun i : CI => reached ER (cell c i) 0) ∗ toks c) : sProp 𝕄)
      ⊢ bigSep Finset.univ (G' x w) := by
  rw [bigSep_sep', bigSep_sep', bigSep_sep', ← bigSep_univ_prod (fun p : Dev nD × CI => iprop(∃ κ : ℕ, cellInv ER (Rd x w) κ (cell p.1 p.2))),
    ← bigSep_univ_prod (fun p : Dev nD × CI => (reached ER (cell p.1 p.2) 0 : sProp 𝕄))]
  iintro ⟨HI, Hat, Hr, Htok⟩
  ihave HK := (BI.bigSep_exists_pi Finset.univ (fun (p : Dev nD × CI) (κ : ℕ) => (cellInv ER (Rd x w) κ (cell p.1 p.2) : sProp 𝕄))) $$ HI
  icases HK with ⟨%K, HI⟩
  ihave Htk := (toks_around (F := F)) $$ Htok
  iapply (with_persistent (R := cellRecs x w K) (Φ := fun c => iprop((bigSep Finset.univ fun i : CI => atPos ER (cell c i) 0 ∅ 0) ∗ payToks c))
    fun c _ => show _ ⊢ G' x w c from by
      unfold G'
      iintro H
      iexists K; iexact H)
  isplitl [HI Hr]
  · unfold cellRecs; rw [bigSep_sep']
    isplitl [HI] <;> iassumption
  · rw [bigSep_sep']
    isplitl [Hat] <;> iassumption

/-- The launch's global step: every device's semaphores and share at once. -/
theorem glob : (bigSep Finset.univ fun c => iprop(Pipeline.ownSems0 (Ix := Unit) (Name := ℕ) (U := UU) (Lvl := ℕ) (Val := Elt F) (τ := τ) osem c ∗ unscopedSems0 c ∗ G x w c) : sProp 𝕄)
    ⊢ |={Set.univ}=> bigSep Finset.univ (G' x w) :=
  ((bigSep_mono fun c _ => core_alloc x w c).trans (bigSep_fupd _ _)).trans (BI.fupd_mono (regroup x w))

/-! ## The credits -/

/-- The transfers among the steps, the last first. -/
def sendsOf : List Step → List TI
  | [] => []
  | .send g k :: l => (g, k) :: sendsOf l
  | .chunk _ :: l => sendsOf l
  | .recv _ _ :: l => sendsOf l
  | .fin _ :: l => sendsOf l
  | .free _ _ :: l => sendsOf l

/-- A partner's debt is a device's credit. -/
theorem cred_xr (i : CI) (μ : Fin 8) (n : ℕ) (c : Dev nD) :
    (Pipeline.launchCred (fun d => tallyAt (cell (xr d μ) i) () n) c : sProp 𝕄) ⊢ cred (tallyAt (cell c i) () n) :=
  Pipeline.launchCred_tallyAt (csem i) (fun d => xr d μ) (fun d => xr d μ) (fun d => xr_xr d μ) (fun d => xr_xr d μ) () n c

theorem creds_dues (c : Dev nD) : ∀ l : List Step, (Pipeline.launchCred (fun d => dues d l) c : sProp 𝕄)
    ⊢ bigSepL (sendsOf l) fun q => cred (tallyAt (rcvC c q) () (NB q.1))
  | [] => Entails.of_eq (Pipeline.launchCred_zero c)
  | .send g k :: l => by
    rw [show (fun d => dues d (.send g k :: l)) = (fun d => dues d l + tallyAt (rcvC (xr d (pm g k)) (g, k)) () (NB g)) from rfl, Pipeline.launchCred_add]
    iintro ⟨H1, H2⟩
    ihave H1' := (creds_dues c l) $$ H1
    ihave H2' := (cred_xr (some (true, (g, k))) (pm g k) (NB g) c) $$ H2
    have e : (bigSepL (sendsOf (.send g k :: l)) fun q : TI => (cred (tallyAt (rcvC c q) () (NB q.1)) : sProp 𝕄))
        = iprop(cred (tallyAt (rcvC c (g, k)) () (NB g)) ∗ bigSepL (sendsOf l) fun q => cred (tallyAt (rcvC c q) () (NB q.1))) := bigSepL_cons _ _ _
    iapply (Entails.of_eq e.symm)
    isplitl [H2']; · iexact H2'
    iexact H1'
  | .chunk _ :: l => creds_dues c l
  | .recv _ _ :: l => creds_dues c l
  | .fin _ :: l => creds_dues c l
  | .free _ _ :: l => creds_dues c l

theorem creds (c : Dev nD) : (Pipeline.launchCred O₀ c : sProp 𝕄)
    ⊢ iprop(cred (tallyAt (barC' c) () 3) ∗ bigSep Finset.univ fun q : TI => cred (tallyAt (rcvC c q) () (NB q.1))) := by
  rw [show (O₀ : Dev nD → _) = fun d => ((dues d steps + tallyAt (barC' (xr d 4)) () 1) + tallyAt (barC' (xr d 3)) () 1) + tallyAt (barC' (xr d 1)) () 1 from rfl,
    Pipeline.launchCred_add, Pipeline.launchCred_add, Pipeline.launchCred_add,
    show (tallyAt (barC' c) () 3 : CellTallies nD τ sig Unit) = (tallyAt (barC' c) () 1 + tallyAt (barC' c) () 1) + tallyAt (barC' c) () 1 from by
      rw [tallyAt_add, tallyAt_add]]
  iintro ⟨⟨⟨Hd, H4⟩, H3⟩, H1⟩
  ihave H4' := (cred_xr none 4 1 c) $$ H4
  ihave H3' := (cred_xr none 3 1 c) $$ H3
  ihave H1' := (cred_xr none 1 1 c) $$ H1
  isplitl [H4' H3' H1']
  · iapply (cred_add _ _).2
    isplitl [H4' H3']
    · iapply (cred_add _ _).2
      isplitl [H4']; · iexact H4'
      iexact H3'
    iexact H1'
  ihave Hd' := (creds_dues c steps) $$ Hd
  iapply (Entails.of_eq (bigSep_univ_eq_bigSepL (sendsOf steps) (by decide +kernel) (by decide +kernel)
    fun q : TI => (cred (tallyAt (rcvC c q) () (NB q.1)) : sProp 𝕄)).symm)
  iexact Hd'

/-- A device's share of the protocol, put together. -/
theorem lin_intro (c : Dev nD) :
    iprop((bigSep Finset.univ fun i : CI => atPos ER (cell c i) 0 ∅ 0) ∗ payToks c
        ∗ cred (tallyAt (barC' c) () 3) ∗ bigSep Finset.univ fun q : TI => cred (tallyAt (rcvC c q) () (NB q.1)))
      ⊢ (lin c : sProp 𝕄) := by
  have ha : (bigSep Finset.univ fun i : CI => (atPos ER (cell c i) 0 ∅ 0 : sProp 𝕄))
      = iprop(atPos ER (barC' c) 0 ∅ 0 ∗ (bigSep Finset.univ fun q : TI => atPos ER (sndC c q) 0 ∅ 0)
        ∗ bigSep Finset.univ fun q : TI => atPos ER (rcvC c q) 0 ∅ 0) := ci_split _
  have hb : (bigSep Finset.univ fun i : Fin 3 => (dutyTok ER (barC' (xr c (bm i))) 0 i : sProp 𝕄))
      = iprop(dutyTok ER (barC' (xr c (bm 0))) 0 0 ∗ dutyTok ER (barC' (xr c (bm 1))) 0 1 ∗ dutyTok ER (barC' (xr c (bm 2))) 0 2) :=
    bigSep_univ_eq_bigSepL [0, 1, 2] (by decide) (by decide) fun i : Fin 3 => (dutyTok ER (barC' (xr c (bm i))) 0 i : sProp 𝕄)
  rw [show bm 0 = 1 from rfl, show bm 1 = 3 from rfl, show bm 2 = 4 from rfl] at hb
  have hr : (bigSep Finset.univ fun q : TI => rcvAt (F := F) c q false)
      = iprop((bigSep Finset.univ fun q : TI => atPos ER (rcvC c q) 0 ∅ 0) ∗ bigSep Finset.univ fun q : TI => cred (tallyAt (rcvC c q) () (NB q.1))) :=
    (bigSep_congr fun q _ => rcvAt_false c q).trans (bigSep_sep' _ _ _)
  unfold payToks lin sndLin
  rw [ha, hb, hr, bigSep_sep', bigSep_sep']
  iintro ⟨⟨HB, HS, HV⟩, ⟨Ht, Hts, Htv⟩, Hcb, Hcv⟩
  isplitl [Ht]; · iexact Ht
  isplitl [HB Hcb]
  · isplitl [HB]; · iexact HB
    iexact Hcb
  isplitl [Hts Htv HS]
  · isplitl [Hts]; · iexact Hts
    isplitl [Htv]; · iexact Htv
    iexact HS
  isplitl [HV]; · iexact HV
  iexact Hcv

end Cert.RS

end
-- ==== Proof.Run.lean ====
/-
# The whole run

`run_main`: from any memory with every counter at zero, on all eight devices, the program terminates with every counter at
zero again; its arguments are unchanged (`final_x`, `final_w`) and every device's result is `outV` of all devices'
arguments (`final_o`).
-/
module

public import proofs.«01_k».proof.Proof.Ghost
public import proofs.«01_k».proof.Proof.Gen.KernelIdeal.Points
public import Idealize.ShloMosaic.Lib.Pipeline.CollectiveSegs

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The devices' arguments. -/
def xs (c : Dev nD) : FVec F S4096x512 .bf16 := m ((c : Thread nD τ).loc main_arg0)
def ws (c : Dev nD) : FVec F S512x2048 .bf16 := m ((c : Thread nD τ).loc main_arg1)

/-! ## The windows: each its whole array -/

theorem read_x (f : (main_arg0 : Ref sig .tc).ty.Contents (Elt F)) : (win0_0.blk t0_0).view.read (Elt F) f = f :=
  Memref.read_access_unit_zero (Elt F) main_arg0 (off := fun a => (win0_0.index t0_0) a * main_arg0.ty.shape.size a)
    (funext fun a => Nat.zero_mul _) (fun a => by rw [show (win0_0.index t0_0) a = 0 from rfl]; omega) f
theorem read_w (f : (main_arg1 : Ref sig .tc).ty.Contents (Elt F)) : (win0_1.blk t0_0).view.read (Elt F) f = f :=
  Memref.read_access_unit_zero (Elt F) main_arg1 (off := fun a => (win0_1.index t0_0) a * main_arg1.ty.shape.size a)
    (funext fun a => Nat.zero_mul _) (fun a => by rw [show (win0_1.index t0_0) a = 0 from rfl]; omega) f
theorem read_o (f : (main_v1 : Ref sig .tc).ty.Contents (Elt F)) : (win0_2.blk t0_0).view.read (Elt F) f = f :=
  Memref.read_access_unit_zero (Elt F) main_v1 (off := fun a => (win0_2.index t0_0) a * main_v1.ty.shape.size a)
    (funext fun a => Nat.zero_mul _) (fun a => by rw [show (win0_2.index t0_0) a = 0 from rfl]; omega) f

/-! ## The pipeline's proof data -/

/-- What a device's body starts from, its memory apart. -/
def start (c : Dev nD) : sProp 𝕄 := iprop(∃ K, recs (xs m) (ws m) K ∗ lin c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => outV (xs m) (ws m) c
  Φ t := match t with
    | ⟨0, _⟩ => iprop(start m c ∗ scr c)
    | ⟨_ + 1, _⟩ => iprop(scr c ∗ zeros c)
  q _ := fullShare
  owed t := match t with
    | ⟨0, _⟩ => O₀ c
    | ⟨_ + 1, _⟩ => 0

theorem before_x (c : Dev nD) (d) : (dats m ρ 0 c).before (0 : Fin 3) t0_0 d = xs m c := by
  unfold Dat.before; rw [if_pos (fetch0_0 t0_0)]; exact read_x (xs m c)
theorem before_w (c : Dev nD) (d) : (dats m ρ 0 c).before (1 : Fin 3) t0_0 d = ws m c := by
  unfold Dat.before; rw [if_pos (fetch0_1 t0_0)]; exact read_w (ws m c)

/-- What the body starts from and ends in, window by window. -/
def bodyIn (c : Dev nD) : sProp 𝕄 :=
  iprop((start m c ∗ scr c) ∗ (dats m ρ 0 c).owesAt () t0_0.castSucc
    ∗ (∃ d, owns (c : Thread nD τ) xM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))
def bodyOut (c : Dev nD) : sProp 𝕄 :=
  iprop((scr c ∗ zeros c) ∗ (dats m ρ 0 c).owesAt () t0_0.succ
    ∗ owns (c : Thread nD τ) xM fullShare (xs m c) ∗ owns (c : Thread nD τ) wM fullShare (ws m c)
    ∗ owns (c : Thread nD τ) oM fullShare (outV (xs m) (ws m) c))

theorem body_ok (c : Dev nD) : bodyIn m ρ c ⊢ WP c bodyC fun _ => bodyOut m ρ c := by
  unfold bodyIn start Dat.owesAt Pipeline.owesWithin
  rw [show (dats m ρ 0 c).owed t0_0.castSucc = O₀ c from rfl]
  iintro ⟨⟨⟨%K, HR, Hl⟩, Hs⟩, ⟨%Ws, -, HO⟩, ⟨%d0, Hx⟩, ⟨%d1, Hw⟩, ⟨%d2, Ho⟩⟩
  rw [before_x, before_w]
  iapply (wp_body (xs m) (ws m) K c Ws fun _ => bodyOut m ρ c)
  isplitl [HR]; · iexact HR
  isplitl [Hl]; · iexact Hl
  isplitl [Hs]; · iexact Hs
  isplitl [Hx]; · iexact Hx
  isplitl [Hw]; · iexact Hw
  isplitl [Ho]; · iexists _; iexact Ho
  isplitl [HO]; · iexact HO
  unfold bodyPost
  iintro ⟨Hz, Hs, Hx, Hw, Ho, ⟨%Ws', HO⟩⟩
  unfold bodyOut Dat.owesAt Pipeline.owesWithin
  rw [show (dats m ρ 0 c).owed t0_0.succ = 0 from rfl]
  isplitl [Hs Hz]
  · isplitl [Hs]; · iexact Hs
    iexact Hz
  isplitl [HO]
  · iexists Ws'
    isplitr; · ipureintro; exact fun _ _ => Or.inl trivial
    iexact HO
  isplitl [Hx]; · iexact Hx
  isplitl [Hw]; · iexact Hw
  iexact Ho

theorem body_at : (defs₀ (F := F)) .tc cfg0.body (cfg0.bodyArgs t0_0 (cfg0.slots t0_0)) = bodyC := by
  rw [← body_eq_run]; rfl

theorem body_obligation (c : Dev nD) : BodyObligation (dats (F := F) m ρ 0 c) (defs₀ (F := F)) 𝒱₀ () Set.univ := fun t => by
  rw [fin_N0 t, bigSep_W0, bigSep_W0, body_at]
  have h1 : (dats (F := F) m ρ 0 c).Φ t0_0.castSucc = iprop(start m c ∗ scr c) := rfl
  have h2 : (dats (F := F) m ρ 0 c).Φ t0_0.succ = iprop(scr c ∗ zeros c) := rfl
  have a0 : (dats (F := F) m ρ 0 c).after (0 : Fin 3) t0_0 = xs m c := rfl
  have a1 : (dats (F := F) m ρ 0 c).after (1 : Fin 3) t0_0 = ws m c := rfl
  have a2 : (dats (F := F) m ρ 0 c).after (2 : Fin 3) t0_0 = outV (xs m) (ws m) c := rfl
  rw [h1, h2, a0, a1, a2]
  have h := body_ok m ρ c
  unfold bodyOut at h
  show bodyIn m ρ c ⊢ _
  have i0 : cfg0.idle (0 : Fin 3) (cfg0.grid.coords t0_0) = false := rfl
  rw [i0]
  have f0 : owns (Ix := Unit) (Name := ℕ) (U := UU) (Lvl := ℕ) (c : Thread nD τ) ((cfg0.win (0 : Fin 3)).stage (cfg0.slots t0_0 (0 : Fin 3))) fullShare (xs m c) = (owns (c : Thread nD τ) xM fullShare (xs m c) : sProp 𝕄) := rfl
  have f1 : owns (Ix := Unit) (Name := ℕ) (U := UU) (Lvl := ℕ) (c : Thread nD τ) ((cfg0.win (1 : Fin 3)).stage (cfg0.slots t0_0 (1 : Fin 3))) fullShare (ws m c) = (owns (c : Thread nD τ) wM fullShare (ws m c) : sProp 𝕄) := rfl
  have f2 : owns (Ix := Unit) (Name := ℕ) (U := UU) (Lvl := ℕ) (c : Thread nD τ) ((cfg0.win (2 : Fin 3)).stage (cfg0.slots t0_0 (2 : Fin 3))) fullShare (outV (xs m) (ws m) c) = (owns (c : Thread nD τ) oM fullShare (outV (xs m) (ws m) c) : sProp 𝕄) := rfl
  rw [f0, f1, f2]
  exact BIBase.Entails.trans h (Entails.of_eq (by congr 1))

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) (ws m) c)
      ⊢ |={Set.univ}=> iprop(start m c ∗ emp) := by
  unfold G'
  iintro ⟨-, Hlev, Hcr, -, ⟨%K, HR, Hat, Ht⟩⟩
  ihave Hc := (creds (F := F) c) $$ Hcr
  icases Hc with ⟨H1, HN⟩
  imodintro
  isplitl
  · unfold start
    iexists K
    isplitl [HR Hlev]
    · unfold recs
      isplitl [HR]; · unfold cellRecs; iexact HR
      iexact Hlev
    iapply (lin_intro (F := F) c)
    isplitl [Hat]; · iexact Hat
    isplitl [Ht]; · iexact Ht
    isplitl [H1]; · iexact H1
    iexact HN
  · iempintro

theorem entails_antisymm {P Q : sProp 𝕄} (h1 : P ⊢ Q) (h2 : Q ⊢ P) : P = Q := BI.equiv_iff.mp ⟨h1, h2⟩
theorem sep3 {A A' B B' C C' : sProp 𝕄} (hA : A = A') (hB : B = B') (hC : C = C') : iprop(A ∗ B ∗ C) = iprop(A' ∗ B' ∗ C') := by
  rw [hA, hB, hC]

theorem owns_whole (c : Dev nD) (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  unfold owns; simp only [Memref.view_whole, View.read_whole, View.set_whole]
  refine entails_antisymm ?_ ?_
  · iintro ⟨%X, %f, -, H⟩
    iexists f; iexact H
  · iintro ⟨%f, H⟩
    iexists f, f
    isplitr; · ipureintro; rfl
    iexact H

/-- A buffer whole at any contents. -/
def buf (c : Dev nD) (b : Ref sig .tc) : sProp 𝕄 := iprop(∃ f : Buf (Elt F) ((c : Thread nD τ).loc b), ((c : Thread nD τ).loc b) ↦{fullShare} f)

/-- The scratch memory, buffer by buffer. -/
theorem scr_bufs (c : Dev nD) : (Pipeline.scopedRest (Ix := Unit) (Name := ℕ) (U := UU) (Lvl := ℕ) (Val := Elt F) cfg0.spec c : sProp 𝕄) = scr c := by
  have h (Φ : Fin 3 → sProp 𝕄) : bigSep Finset.univ Φ = iprop(Φ 0 ∗ Φ 1 ∗ Φ 2) := bigSep_univ_eq_bigSepL [0, 1, 2] (by decide) (by decide) Φ
  have hb := owns_whole (F := F) c
  have hs : scr (F := F) c = iprop((buf c cc0_scratch0 ∗ buf c cc0_scratch1 ∗ buf c cc0_scratch2)
      ∗ (buf c cc0_scratch3 ∗ buf c cc0_scratch4 ∗ buf c cc0_scratch5) ∗ buf c cc0_scratch6) := by
    unfold scr
    rw [h, h]
    exact sep3 (sep3 (hb cc0_scratch0) (hb cc0_scratch1) (hb cc0_scratch2)) (sep3 (hb cc0_scratch3) (hb cc0_scratch4) (hb cc0_scratch5)) (hb cc0_scratch6)
  have hr : (Pipeline.scopedRest (Ix := Unit) (Name := ℕ) (U := UU) (Lvl := ℕ) (Val := Elt F) cfg0.spec c : sProp 𝕄)
      = iprop(buf c cc0_scratch0 ∗ buf c cc0_scratch1 ∗ buf c cc0_scratch2 ∗ buf c cc0_scratch3 ∗ buf c cc0_scratch4 ∗ buf c cc0_scratch5
        ∗ buf c cc0_scratch6) := scopedRest0_eq c
  rw [hs, hr]
  refine entails_antisymm ?_ ?_
  · iintro ⟨H0, H1, H2, H3, H4, H5, H6⟩
    isplitl [H0 H1 H2]
    · isplitl [H0]; · iexact H0
      isplitl [H1]; · iexact H1
      iexact H2
    isplitl [H3 H4 H5]
    · isplitl [H3]; · iexact H3
      isplitl [H4]; · iexact H4
      iexact H5
    iexact H6
  · iintro ⟨⟨H0, H1, H2⟩, ⟨H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scr_bufs]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ zeros c) from rfl, scr_bufs, ownSems0_split, unscopedSems0_bar]
  unfold zeros
  iintro ⟨Hr, HzB, HzS, HzV⟩
  isplitl [HzB]; · iexact HzB
  isplitl [HzS HzV]
  · isplitl [HzS]; · iexact HzS
    iexact HzV
  iexact Hr

/-- A staging semaphore is no cell of the exchange. -/
theorem stage_sem (w : Fin cfg0.W) (s : Fin (cfg0.win w).nbuf) : ∀ i : CI, csem i ≠ .dma ((cfg0.win w).sem s) := by
  revert s; fin_cases w <;> decide +kernel
theorem stage_lev (w : Fin cfg0.W) (s : Fin (cfg0.win w).nbuf) : levOf (dec (.dma ((cfg0.win w).sem s))) = 0 := by
  unfold dec; rw [dif_neg fun ⟨i, h⟩ => stage_sem w s i h]; rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lev w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m) (ws m)) (G' := G' (xs m) (ws m)) (u₀ := u₀)
    (hu₀ := by
      unfold u₀
      iintro Hu
      ihave H := (ownU_pair _ _) $$ Hu
      icases H with ⟨HP, HX⟩
      imod (fund_ring (xs m) (ws m)) $$ HX with HG
      imodintro
      isplitl [HP] <;> iassumption)
    (hglob := glob (xs m) (ws m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = xs m c := (dats (F := F) m ρ 0 c).arrAt_in (0 : Fin 3) rfl _
theorem final_w (c : Dev nD) : finalA m ρ c (1 : Fin 3) = ws m c := (dats (F := F) m ρ 0 c).arrAt_in (1 : Fin 3) rfl _
theorem final_o (c : Dev nD) : finalA m ρ c (2 : Fin 3) = outV (xs m) (ws m) c := by
  have h : (win0_2.blk t0_0).view.read (Elt F) (finalA m ρ c (2 : Fin 3)) = outV (xs m) (ws m) c := by
    unfold finalA
    rw [show cfg0.N = (t0_0 : Fin cfg0.N).val + 1 from rfl, (dats m ρ 0 c).arrAt_succ (2 : Fin 3) t0_0]
    rw [if_pos (flush0_2 t0_0)]
    exact View.read_write_univ _ _
  exact (read_o _).symm.trans h

/-- The program runs: arguments unchanged, results `outV`, counters at zero. -/
theorem run_main : θ_run defs (onTc (τ := τ) (main (F := F))) ⟨m, fun _ => 0, ρ⟩ (fun r =>
    (∀ c : Dev nD, r.2.mem ((c.tc : Thread nD τ).loc main_v1) = outV (xs m) (ws m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_w m ρ c)⟩, h.2⟩) (run_arrays m ρ)

end Cert.RS

end
-- ==== Proof.Frames.lean ====
/- The frames: each program runs to completion, returns its arguments unchanged and leaves every counter zero.
   `Cert.Kernel` and `Cert.KernelIdeal` are one text, so the run of `Cert.RS.run_main`, which holds at any float
   values, is read at the bit-exact values for the first and at the extended reals for the second. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

variable {F : FTy → Type} [FloatOps F]

/-- The two kernels' body tables have one label, and one body at it. -/
theorem defs₀_same : Cert.KernelIdeal.defs₀ (F := F) = Cert.Kernel.defs₀ := by
  unfold Cert.Kernel.defs₀ Cert.KernelIdeal.defs₀
  refine congrArg Defs.onTc ?_
  funext l
  obtain ⟨v, h⟩ := l
  obtain rfl : v = 0 := Nat.lt_one_iff.mp h
  funext a
  obtain ⟨t, s⟩ := a
  rfl

theorem defs_same : Cert.KernelIdeal.defs (F := F) = Cert.Kernel.defs := by
  unfold Cert.Kernel.defs Cert.KernelIdeal.defs
  rw [defs₀_same]
  rfl

theorem frame_kernel : Cert.quiescent_Kernel := fun m ρ _ => by
  have h := Cert.RS.run_main (F := Bits) m ρ
  rw [defs_same] at h
  exact (θ_run Cert.Kernel.defs _ _).mono (fun _ h => ⟨fun c => (h.1 c).2, h.2⟩) h

theorem frame_kernelIdeal : Cert.quiescent_KernelIdeal := fun m ρ _ =>
  (θ_run Cert.KernelIdeal.defs _ _).mono (fun _ h => ⟨fun c => (h.1 c).2, h.2⟩) (Cert.RS.run_main (F := Ideal) m ρ)

/-- The reference has no counter at all. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Values.lean ====
/-
# The value of the result over the extended reals

Over the extended reals every rounding is the identity, so a device's block of the result is gelu of the sum, over the
eight devices, of the products each of them computes (`outV_apply`). The three stages of a column group add the eight
products in an order of its own: the four masks met before the last sum, and their translates by the last mask, are the
eight masks (`masks_all`).
-/
module

public import proofs.«01_k».proof.Proof.Body
public import Idealize.ShloMosaic.Lib.Pointwise
public import Idealize.ShloMosaic.Lib.Pipeline.ValueKit.Acc

@[expose] public section

noncomputable section

namespace Cert.RS

open Cert.KernelIdeal Cert.KernelIdeal.Gen
open Idealize.ShloMosaic

/-! ## The sum over the devices -/

/-- The devices whose products a column group adds, in the order it adds them, are all the devices. -/
theorem masks_all : ∀ (g : Fin 3) (c : Dev nD), (Finset.univ : Finset (Dev nD)).val =
    {c, xr c (pmask g 1), xr c (pmask g 2), xr (xr c (pmask g 2)) (pmask g 1),
      xr c (pmask g 3), xr (xr c (pmask g 3)) (pmask g 1), xr (xr c (pmask g 3)) (pmask g 2),
      xr (xr (xr c (pmask g 3)) (pmask g 2)) (pmask g 1)} := by decide +kernel

/-- The three stages' sums of one number per device are its sum over the devices. -/
theorem stages_sum {M : Type} [AddCommMonoid M] (T : Dev nD → M) (g : Fin 3) (c : Dev nD) :
    ((T c + T (xr c (pmask g 1))) + (T (xr c (pmask g 2)) + T (xr (xr c (pmask g 2)) (pmask g 1))))
      + ((T (xr c (pmask g 3)) + T (xr (xr c (pmask g 3)) (pmask g 1)))
        + (T (xr (xr c (pmask g 3)) (pmask g 2)) + T (xr (xr (xr c (pmask g 3)) (pmask g 2)) (pmask g 1))))
      = ∑ d, T d := by
  unfold Finset.sum
  rw [masks_all g c]
  simp only [Multiset.insert_eq_cons, Multiset.map_cons, Multiset.sum_cons, Multiset.map_singleton, Multiset.sum_singleton, add_assoc]

/-! ## The kernel's operations at an index -/

variable (x : Dev nD → FVec Ideal S4096x512 .bf16) (w : Dev nD → FVec Ideal S512x2048 .bf16)

/-- Row `i 0` of chunk `ch`, as a row of all. -/
def rowAt (ch : Dev nD) (i : S512x2048.Idx) : Fin 4096 :=
  ⟨ch.val * 512 + (i 0).val, by
    have h0 : (i 0).val < 512 := (i 0).isLt
    have h1 : ch.val < 8 := ch.isLt
    omega⟩

/-- Device `d`'s product at an index of chunk `ch`. -/
def part (ch : Dev nD) (i : S512x2048.Idx) (d : Dev nD) : EReal :=
  ∑ k : Fin 512, x d (ix2 (rowAt ch i) k) * w d (ix2 k (i 1))

theorem colsV_apply (g : Fin 3) (p : FVec Ideal S512x2048 .bf16) (j : (SB g).Idx) : colsV g p j = p ((rO g).emb j) := by
  unfold colsV
  rw [shapeCast_id]
  refine congrArg p (funext fun a => Fin.ext ?_)
  fin_cases a
  · show 0 + (j 0).val = 0 + 1 * (j 0).val
    omega
  · show colOff g + (j 1).val = colOff g + 1 * (j 1).val
    omega

theorem prodV_apply (X : FVec Ideal S4096x512 .bf16) (W : FVec Ideal S512x2048 .bf16) (ch : Dev nD) (i : S512x2048.Idx) :
    prodV (xch X ch) (k0_pay1 W) i = ∑ k : Fin 512, X (ix2 (rowAt ch i) k) * W (ix2 k (i 1)) := by
  unfold prodV k0_pay1
  pointwise
  refine Finset.sum_congr rfl fun k _ => congrArg (· * _) (congrArg X ?_)
  funext a; apply Fin.ext
  fin_cases a
  · show 512 * ch.val + 1 * (i 0).val = ch.val * 512 + (i 0).val
    omega
  · show 0 + 1 * k.val = k.val
    omega

theorem prodAt_apply (g : Fin 3) (c ch : Dev nD) (j : (SB g).Idx) :
    prodAt x w g c ch j = part x w ch ((rO g).emb j) c := by
  unfold prodAt
  rw [colsV_apply, prodV_apply]
  rfl

theorem addV_apply (g : Fin 3) (a b : FVec Ideal (SB g) .bf16) (j : (SB g).Idx) : (addV g a b j : EReal) = (a j : EReal) + b j := by
  unfold addV
  rw [shapeCast_id]
  rfl

theorem sumV_apply (g : Fin 3) (a b : FVec Ideal (SB g) .bf16) (j : (SB g).Idx) : (sumV g a b j : EReal) = (a j : EReal) + b j := rfl

/-- The tanh form of gelu on the extended reals, its constants the kernel's words. -/
def geluS (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * y * y * y)))

theorem geluV_apply (g : Fin 3) (y : FVec Ideal (SB g) .f32) (j : (SB g).Idx) : geluV g y j = geluS (y j) := rfl

theorem outG_apply (g : Fin 3) (c : Dev nD) (j : (SB g).Idx) :
    outG x w g c j = geluS (∑ d, part x w c ((rO g).emb j) d) := by
  unfold outG stage3 stage2
  rw [geluV_apply, sumV_apply]
  simp only [addV_apply, prodAt_apply]
  rw [stages_sum]

/-- A device's block of the result, at an index. -/
theorem outV_apply (c : Dev nD) (i : S512x2048.Idx) : outV x w c i = geluS (∑ d, part x w c i d) := by
  obtain ⟨g, -, hg⟩ := Finset.mem_biUnion.mp (out_cover ▸ Finset.mem_univ i)
  rw [← Rect.map_emb_univ] at hg
  obtain ⟨j, -, rfl⟩ := Finset.mem_map.mp hg
  unfold outV
  rw [ofCols_emb, outG_apply]

/-! ## The blocks of one array -/

/-- The sum over the devices, where each device holds its columns of `X` and its rows of `W`, is the whole contraction. -/
theorem sum_part (X : FVec Ideal ⟨2, ![4096, 4096]⟩ .bf16) (W : FVec Ideal ⟨2, ![4096, 2048]⟩ .bf16)
    (hx : ∀ d, x d = Layout.block ⟨2, ![4096, 512]⟩ ⟨2, ![4096, 4096]⟩ 1 8 d X)
    (hw : ∀ d, w d = Layout.block ⟨2, ![512, 2048]⟩ ⟨2, ![4096, 2048]⟩ 0 8 d W) (c : Dev nD) (i : S512x2048.Idx) :
    ∑ d, part x w c i d = ∑ K : Fin 4096, X (ix2 (rowAt c i) K) * W (ix2 K (i 1)) := by
  rw [← Fin.sum_mul_add_fin 8 512 (fun K : Fin 4096 => X (ix2 (rowAt c i) K) * W (ix2 K (i 1)))]
  refine Finset.sum_congr rfl fun d _ => ?_
  unfold part
  rw [hx, hw]
  refine Finset.sum_congr rfl fun k _ => ?_
  rw [Layout.block_apply, Layout.block_apply]
  refine congrArg₂ (· * ·) (congrArg X (funext fun a => Fin.ext ?_)) (congrArg W (funext fun a => Fin.ext ?_))
  · fin_cases a <;> rfl
  · fin_cases a <;> rfl

end Cert.RS

end
-- ==== Proof.Reference.lean ====
/-
# The kernel's result against the reference's

The reference contracts the whole arrays and applies gelu to the product; its block for a device is what the kernel
leaves there (`outV_eq_block`). The two texts of gelu differ only in how they associate the cube.
-/
module

public import proofs.«01_k».proof.Proof.Values
public import proofs.«01_k».proof.Proof.Gen.ReferenceIdeal
public import proofs.«01_k».proof.Proof.Gen.ReferenceIdeal.Run

@[expose] public section

noncomputable section

namespace Cert.RS

open Idealize.ShloMosaic

section

open Cert.ReferenceIdeal Cert.ReferenceIdeal.Gen

/-- The reference's product, rounded. -/
def refY (X : FVec Ideal S4096x4096 .bf16) (W : FVec Ideal S4096x2048 .bf16) : FVec Ideal S4096x2048 .f32 :=
  extf .f32 (truncf .bf16 (Host.dotGeneral dot_S4096x4096_S4096x2048_S4096x2048_1_0_0_1_n_n none X W) bitsLt_bf16_f32) bitsLt_bf16_f32

/-- A constant array of the reference. -/
def refC (b : BitVec 32) : FVec Ideal S4096x2048 .f32 := broadcastInDim S4096x2048 ![] bcast_S_S4096x2048 (constant S_ .f32 b)

/-- The reference's result. -/
def refV (X : FVec Ideal S4096x4096 .bf16) (W : FVec Ideal S4096x2048 .bf16) : FVec Ideal S4096x2048 .f32 :=
  mulf (mulf (refC 0x3F000000#32) (refY X W))
    (addf (refC 0x3F800000#32) (Host.tanh (mulf (refC 0x3F4C422A#32)
      (addf (refY X W) (mulf (refC 0x3D372713#32) (mulf (mulf (refY X W) (refY X W)) (refY X W)))))))

theorem refY_apply (X : FVec Ideal S4096x4096 .bf16) (W : FVec Ideal S4096x2048 .bf16) (i : S4096x2048.Idx) :
    refY X W i = ∑ K : Fin 4096, X (ix2 (i 0) K) * W (ix2 K (i 1)) := by
  unfold refY
  pointwise

theorem refV_apply (X : FVec Ideal S4096x4096 .bf16) (W : FVec Ideal S4096x2048 .bf16) (i : S4096x2048.Idx) :
    refV X W i = geluS (refY X W i) := by
  unfold refV geluS
  generalize refY X W = y
  pointwise [refC]
  rw [← mul_assoc, ← mul_assoc]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end

open Cert.KernelIdeal in
/-- A device's block of the reference's result is what the kernel leaves on it. -/
theorem outV_eq_block (x : Dev nD → FVec Ideal S4096x512 .bf16) (w : Dev nD → FVec Ideal S512x2048 .bf16)
    (X : FVec Ideal ⟨2, ![4096, 4096]⟩ .bf16) (W : FVec Ideal ⟨2, ![4096, 2048]⟩ .bf16)
    (hx : ∀ d, x d = Layout.block ⟨2, ![4096, 512]⟩ ⟨2, ![4096, 4096]⟩ 1 8 d X)
    (hw : ∀ d, w d = Layout.block ⟨2, ![512, 2048]⟩ ⟨2, ![4096, 2048]⟩ 0 8 d W) (c : Dev nD) :
    outV x w c = Layout.block ⟨2, ![512, 2048]⟩ ⟨2, ![4096, 2048]⟩ 0 8 c (refV X W) := by
  funext i
  rw [outV_apply, sum_part x w X W hx hw, Layout.block_apply, refV_apply, refY_apply]
  rfl

end Cert.RS

end
-- ==== Proof.lean ====
module

public import proofs.«01_k».proof.Defs
public import proofs.«01_k».proof.Proof.Frames
public import proofs.«01_k».proof.Proof.Reference

@[expose] public section

noncomputable section

namespace Cert.Proof

open Idealize.ShloMosaic Idealize.SL.Sem

/-- The kernel's result on each device is that device's block of the reference's. -/
theorem algebraic : Cert.algebraic_KernelIdeal_ReferenceIdeal := fun m ρ m' ρ' _ hm =>
  ⟨Cert.RS.refV _ _,
    (θ_run Cert.KernelIdeal.defs _ _).mono
      (fun _ h c => ⟨(h.1 c).1.trans (Cert.RS.outV_eq_block (Cert.RS.xs m) (Cert.RS.ws m) _ _ (fun d => (hm d).1) (fun d => (hm d).2) c),
        (h.1 c).2⟩)
      (Cert.RS.run_main (F := Ideal) m ρ),
    (θ_run Cert.ReferenceIdeal.defs _ _).mono (fun _ h => h 0) (Cert.RS.run_ref m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
